-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v25_1) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S15360x7168 : Shape := ⟨2, ![15360, 7168]⟩
abbrev S7168x7168 : Shape := ⟨2, ![7168, 7168]⟩
abbrev S7168x3584 : Shape := ⟨2, ![7168, 3584]⟩
abbrev S7168x56 : Shape := ⟨2, ![7168, 56]⟩
abbrev S1536x1024 : Shape := ⟨2, ![1536, 1024]⟩
abbrev S1024x1024 : Shape := ⟨2, ![1024, 1024]⟩
abbrev S1024x512 : Shape := ⟨2, ![1024, 512]⟩
abbrev S1024x56 : Shape := ⟨2, ![1024, 56]⟩
abbrev S32x56 : Shape := ⟨2, ![32, 56]⟩
abbrev S32x128 : Shape := ⟨2, ![32, 128]⟩
abbrev S32 : Shape := ⟨1, ![32]⟩
abbrev S32x1 : Shape := ⟨2, ![32, 1]⟩
abbrev S8x128 : Shape := ⟨2, ![8, 128]⟩
abbrev S8x128x1 : Shape := ⟨3, ![8, 128, 1]⟩

abbrev nBuf : Space → Nat
  | .hbm => 6
  | .vmem => 13
  | .smem => 0
  | _ => 0

abbrev bufTy : (tb : Table) → Fin (tcTables nBuf tb) → BufTy
  | .hbm, ⟨0, _⟩ => ⟨S15360x7168, .bf16⟩
  | .hbm, ⟨1, _⟩ => ⟨S15360x7168, .bf16⟩
  | .hbm, ⟨2, _⟩ => ⟨S7168x7168, .f32⟩
  | .hbm, ⟨3, _⟩ => ⟨S7168x3584, .i8⟩
  | .hbm, ⟨4, _⟩ => ⟨S7168x56, .f32⟩
  | .hbm, ⟨5, _⟩ => ⟨S7168x7168, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x512, .i8⟩
  | .local _ .vmem, ⟨7, _⟩ => ⟨S1024x512, .i8⟩
  | .local _ .vmem, ⟨8, _⟩ => ⟨S1024x56, .f32⟩
  | .local _ .vmem, ⟨9, _⟩ => ⟨S1024x56, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S15360x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![7, 7, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c32_i32 : BitVec 32 := 32#32
  let v15 : BitVec 32 := Scalar.addi c0_i32_9 c32_i32
  let c1_i32 : BitVec 32 := 1#32
  ⟨c0_i32_9, v15, c1_i32⟩
def k0_off1 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v19 : Index := Scalar.indexCast v18
  let c0_14 : Index := 0#32
  ![v19.toNat, 0]
def k0_off2 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v22 : Index := Scalar.indexCast v18
  let c0_15 : Index := 0#32
  ![v22.toNat, 0]
def k0_off3 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v59 : Index := Scalar.indexCast v18
  let c128 : Index := 128#32
  ![v59.toNat, 128]
def k0_off4 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v148 : Index := Scalar.indexCast v18
  let c0_43 : Index := 0#32
  ![v148.toNat, 0]
def k0_off5 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v150 : Index := Scalar.indexCast v18
  let c256 : Index := 256#32
  ![v150.toNat, 256]
def k0_off6 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v187 : Index := Scalar.indexCast v18
  let c384 : Index := 384#32
  ![v187.toNat, 384]
def k0_off7 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v276 : Index := Scalar.indexCast v18
  let c128_80 : Index := 128#32
  ![v276.toNat, 128]
def k0_off8 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v278 : Index := Scalar.indexCast v18
  let c512 : Index := 512#32
  ![v278.toNat, 512]
def k0_off9 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v315 : Index := Scalar.indexCast v18
  let c640 : Index := 640#32
  ![v315.toNat, 640]
def k0_off10 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v404 : Index := Scalar.indexCast v18
  let c256_117 : Index := 256#32
  ![v404.toNat, 256]
def k0_off11 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v406 : Index := Scalar.indexCast v18
  let c768 : Index := 768#32
  ![v406.toNat, 768]
def k0_off12 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v443 : Index := Scalar.indexCast v18
  let c896 : Index := 896#32
  ![v443.toNat, 896]
def k0_off13 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v532 : Index := Scalar.indexCast v18
  let c384_154 : Index := 384#32
  ![v532.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S15360x7168 : Shape := ⟨2, ![15360, 7168]⟩
abbrev S7168x7168 : Shape := ⟨2, ![7168, 7168]⟩
abbrev S7168x56x128 : Shape := ⟨3, ![7168, 56, 128]⟩
abbrev S_ : Shape := ⟨0, ![]⟩
abbrev S7168x56 : Shape := ⟨2, ![7168, 56]⟩
abbrev S7168x56x1 : Shape := ⟨3, ![7168, 56, 1]⟩
abbrev S7168x3584 : Shape := ⟨2, ![7168, 3584]⟩
abbrev S7168x3584x1 : Shape := ⟨3, ![7168, 3584, 1]⟩
abbrev S7168x3584x2 : Shape := ⟨3, ![7168, 3584, 2]⟩

abbrev nBuf : Space → Nat
  | .hbm => 77
  | .vmem => 0
  | .smem => 0
  | _ => 0

abbrev bufTy : (tb : Table) → Fin (tcTables nBuf tb) → BufTy
  | .hbm, ⟨0, _⟩ => ⟨S15360x7168, .bf16⟩
  | .hbm, ⟨1, _⟩ => ⟨S15360x7168, .bf16⟩
  | .hbm, ⟨2, _⟩ => ⟨S7168x7168, .f32⟩
  | .hbm, ⟨3, _⟩ => ⟨S7168x7168, .f32⟩
  | .hbm, ⟨4, _⟩ => ⟨S7168x7168, .f32⟩
  | .hbm, ⟨5, _⟩ => ⟨S7168x56x128, .f32⟩
  | .hbm, ⟨6, _⟩ => ⟨S7168x56x128, .f32⟩
  | .hbm, ⟨7, _⟩ => ⟨S_, .f32⟩
  | .hbm, ⟨8, _⟩ => ⟨S7168x56, .f32⟩
  | .hbm, ⟨9, _⟩ => ⟨S_, .f32⟩
  | .hbm, ⟨10, _⟩ => ⟨S7168x56, .f32⟩
  | .hbm, ⟨11, _⟩ => ⟨S7168x56, .i1⟩
  | .hbm, ⟨12, _⟩ => ⟨S_, .f32⟩
  | .hbm, ⟨13, _⟩ => ⟨S7168x56, .f32⟩
  | .hbm, ⟨14, _⟩ => ⟨S7168x56, .f32⟩
  | .hbm, ⟨15, _⟩ => ⟨S_, .f32⟩
  | .hbm, ⟨16, _⟩ => ⟨S7168x56, .f32⟩
  | .hbm, ⟨17, _⟩ => ⟨S7168x56, .f32⟩
  | .hbm, ⟨18, _⟩ => ⟨S7168x56x1, .f32⟩
  | .hbm, ⟨19, _⟩ => ⟨S7168x56x128, .f32⟩
  | .hbm, ⟨20, _⟩ => ⟨S7168x56x128, .f32⟩
  | .hbm, ⟨21, _⟩ => ⟨S7168x56x128, .f32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S7168x56x128, .f32⟩
  | .hbm, ⟨26, _⟩ => ⟨S7168x56x128, .f32⟩
  | .hbm, ⟨27, _⟩ => ⟨S_, .f32⟩
  | .hbm, ⟨28, _⟩ => ⟨S7168x56x128, .f32⟩
  | .hbm, ⟨29, _⟩ => ⟨S7168x56x128, .f32⟩
  | .hbm, ⟨30, _⟩ => ⟨S7168x56x128, .i32⟩
  | .hbm, ⟨31, _⟩ => ⟨S7168x7168, .i32⟩
  | .hbm, ⟨32, _⟩ => ⟨S_, .i32⟩
  | .hbm, ⟨33, _⟩ => ⟨S7168x7168, .i32⟩
  | .hbm, ⟨34, _⟩ => ⟨S7168x7168, .i32⟩
  | .hbm, ⟨35, _⟩ => ⟨S7168x3584, .i32⟩
  | .hbm, ⟨36, _⟩ => ⟨S7168x3584, .i32⟩
  | .hbm, ⟨37, _⟩ => ⟨S_, .i32⟩
  | .hbm, ⟨38, _⟩ => ⟨S7168x3584, .i32⟩
  | .hbm, ⟨39, _⟩ => ⟨S7168x3584, .i32⟩
  | .hbm, ⟨40, _⟩ => ⟨S7168x3584, .i32⟩
  | .hbm, ⟨41, _⟩ => ⟨S7168x3584, .i8⟩
  | .hbm, ⟨42, _⟩ => ⟨S7168x3584, .i8⟩
  | .hbm, ⟨43, _⟩ => ⟨S7168x56, .f32⟩
  | .hbm, ⟨44, _⟩ => ⟨S7168x3584, .i32⟩
  | .hbm, ⟨45, _⟩ => ⟨S_, .i32⟩
  | .hbm, ⟨46, _⟩ => ⟨S7168x3584, .i32⟩
  | .hbm, ⟨47, _⟩ => ⟨S7168x3584, .i32⟩
  | .hbm, ⟨48, _⟩ => ⟨S7168x3584, .f32⟩
  | .hbm, ⟨49, _⟩ => ⟨S_, .i32⟩
  | .hbm, ⟨50, _⟩ => ⟨S7168x3584, .i32⟩
  | .hbm, ⟨51, _⟩ => ⟨S7168x3584, .i32⟩
  | .hbm, ⟨52, _⟩ => ⟨S7168x3584, .f32⟩
  | .hbm, ⟨53, _⟩ => ⟨S_, .f32⟩
  | .hbm, ⟨54, _⟩ => ⟨S7168x3584, .f32⟩
  | .hbm, ⟨55, _⟩ => ⟨S7168x3584, .i1⟩
  | .hbm, ⟨56, _⟩ => ⟨S_, .f32⟩
  | .hbm, ⟨57, _⟩ => ⟨S7168x3584, .f32⟩
  | .hbm, ⟨58, _⟩ => ⟨S7168x3584, .f32⟩
  | .hbm, ⟨59, _⟩ => ⟨S7168x3584, .f32⟩
  | .hbm, ⟨60, _⟩ => ⟨S_, .f32⟩
  | .hbm, ⟨61, _⟩ => ⟨S7168x3584, .f32⟩
  | .hbm, ⟨62, _⟩ => ⟨S7168x3584, .i1⟩
  | .hbm, ⟨63, _⟩ => ⟨S_, .f32⟩
  | .hbm, ⟨64, _⟩ => ⟨S7168x3584, .f32⟩
  | .hbm, ⟨65, _⟩ => ⟨S7168x3584, .f32⟩
  | .hbm, ⟨66, _⟩ => ⟨S7168x3584, .f32⟩
  | .hbm, ⟨67, _⟩ => ⟨S7168x3584x1, .f32⟩
  | .hbm, ⟨68, _⟩ => ⟨S7168x3584x1, .f32⟩
  | .hbm, ⟨69, _⟩ => ⟨S7168x3584x2, .f32⟩
  | .hbm, ⟨70, _⟩ => ⟨S7168x56x128, .f32⟩
  | .hbm, ⟨71, _⟩ => ⟨S7168x56x128, .f32⟩
  | .hbm, ⟨72, _⟩ => ⟨S7168x56x1, .f32⟩
  | .hbm, ⟨73, _⟩ => ⟨S7168x56x128, .f32⟩
  | .hbm, ⟨74, _⟩ => ⟨S7168x56x128, .f32⟩
  | .hbm, ⟨75, _⟩ => ⟨S7168x56x128, .f32⟩
  | .hbm, ⟨76, _⟩ => ⟨S7168x7168, .f32⟩
  | _, _ => ⟨S15360x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.BitsFrame.lean ====
/- The kernel at the machine's own floats: it runs, leaves its arguments unchanged and every semaphore counter at zero. Nothing is said
   here of what it writes. -/
module

public import proofs.«01_k».proof.Proof.Gen.Kernel.Frame
public import proofs.«01_k».proof.Proof.Gen.Kernel.Skeleton
public import proofs.«01_k».proof.Proof.Gen.Kernel.Loops
public import Idealize.ShloMosaic.Lib.Claim
@[expose] public section

set_option maxRecDepth 16384
noncomputable section

namespace Cert.GradInt4.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional's guard. -/
abbrev guard0 (i : grid0.Coords) : Prop := (Scalar.cmpi .ne (Scalar.extui (Scalar.cmpi .eq (BitVec.ofNat 32 (i 2).val) 0#32)) 0#32) = 1#1
/-- The second conditional's guard. -/
abbrev guard1 (i : grid0.Coords) : Prop := k0_cond2 i = 1#1

/-- The body's buffers: the three inputs at their contents, the outputs and the accumulator at anything. -/
def held (c : Dev nD) (arg3 arg4 : Memref sig .tc .vmem S1536x1024 .bf16) (arg5 : Memref sig .tc .vmem S1024x1024 .f32) (arg6 : Memref sig .tc .vmem S1024x512 .i8)
    (arg7 : Memref sig .tc .vmem S1024x56 .f32) (arg8 arg9 : Memref sig .tc .vmem S1024x1024 .f32) (x0 x1 : Vec F S1536x1024 .bf16) (x2 : Vec F S1024x1024 .f32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d) ∗ (∃ d, owns (c : Thread nD τ) arg8 fullShare d)
    ∗ (∃ d, owns (c : Thread nD τ) arg9 fullShare d))

set_option maxHeartbeats 4000000 in
/-- The body on any buffers: it runs and hands the inputs back at their contents. -/
theorem run_any (c : Dev nD) (i : grid0.Coords) (arg3 : Memref sig .tc .vmem S1536x1024 .bf16) (harg3 : arg3.IsWhole) (arg4 : Memref sig .tc .vmem S1536x1024 .bf16) (harg4 : arg4.IsWhole)
    (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S1536x1024 .bf16) (x2 : Vec F S1024x1024 .f32) (E : Set ℕ) (K : PUnit → sProp 𝕄) :
    iprop(held c arg3 arg4 arg5 arg6 arg7 arg8 arg9 x0 x1 x2 ∗ (held c arg3 arg4 arg5 arg6 arg7 arg8 arg9 x0 x1 x2 -∗ K ⟨⟩))
      ⊢ wp frame (wpE (defs₀ (F := F)) Variants.none c none) E (cc0_grad_int4 i arg3 harg3 arg4 harg4 arg5 harg5 arg6 harg6 arg7 harg7 arg8 harg8 arg9 harg9) K := by
  simp only [cc0_grad_int4_eq_skeleton]; unfold cc0_grad_int4_skel
  unfold held owns
  iintro ⟨⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds, %fs0, -, HS0⟩⟩, Hk⟩
  by_cases hc0 : guard0 i <;> by_cases hc1 : guard1 i
  all_goals
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

/-! ## The proof data -/

/-- Each window's staging buffer at a point. -/
abbrev st0 (t : Fin cfg0.N) : Memref sig .tc .vmem S1536x1024 .bf16 := win0_0.stage (cfg0.slots t 0)
abbrev st1 (t : Fin cfg0.N) : Memref sig .tc .vmem S1536x1024 .bf16 := win0_1.stage (cfg0.slots t 1)
abbrev st2 (t : Fin cfg0.N) : Memref sig .tc .vmem S1024x1024 .f32 := win0_2.stage (cfg0.slots t 2)
abbrev st3 (t : Fin cfg0.N) : Memref sig .tc .vmem S1024x512 .i8 := win0_3.stage (cfg0.slots t 3)
abbrev st4 (t : Fin cfg0.N) : Memref sig .tc .vmem S1024x56 .f32 := win0_4.stage (cfg0.slots t 4)
abbrev st5 (t : Fin cfg0.N) : Memref sig .tc .vmem S1024x1024 .f32 := win0_5.stage (cfg0.slots t 5)
/-- The accumulator. -/
abbrev accM : Memref sig .tc .vmem S1024x1024 .f32 := Memref.whole cc0_scratch0

/-- The launch's invariant: the accumulator at anything and the generator register at some state. -/
theorem PhiA_eq (c : Dev nD) : (Pipeline.ΦA spec0 c : sProp 𝕄) = iprop((∃ d, owns (c : Thread nD τ) accM fullShare d) ∗ (∃ r, prngReg c r)) := by
  unfold Pipeline.ΦA; rw [scopedRest0_eq]; simp only [accM, owns_whole]; try rfl

/-- The output windows, of which nothing is said. -/
def outs : Fin 6 → Bool := fun w => w.val == 3 || w.val == 4 || w.val == 5

/-- The proof data: the arrays as launched, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare d)
    ∗ (∃ d, owns (c : Thread nD τ) (st4 t) fullShare d)
    ∗ (∃ d, owns (c : Thread nD τ) (st5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ (∃ d, owns (c : Thread nD τ) (st3 t) fullShare d)
    ∗ (∃ d, owns (c : Thread nD τ) (st4 t) fullShare d)
    ∗ (∃ d, owns (c : Thread nD τ) (st5 t) fullShare d))

/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, after_0, after_1, after_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨HS0, Hg⟩, Ho, ⟨%d0, H0⟩, ⟨%d1, H1⟩, ⟨%d2, H2⟩, H3, H4, H5⟩
  iapply (run_any c (grid0.coords t) _ _ _ _ _ _ _ _ _ _ _ _ _ _ (iblk m c 0 t) (iblk m c 1 t) (iblk m c 2 t) Set.univ _)
  unfold held
  isplitl [H0 H1 H2 H3 H4 H5 HS0]
  · isplitl [H0]; · iexact H0
    isplitl [H1]; · iexact H1
    isplitl [H2]; · iexact H2
    isplitl [H3]; · iexact H3
    isplitl [H4]; · iexact H4
    isplitl [H5]; · iexact H5
    iexact HS0
  iintro ⟨H0, H1, H2, H3, H4, H5, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The launch, with every semaphore counter at zero. -/
theorem run_main : θ_run defs (onTc (τ := τ) (main (F := F))) (s₀ m ρ)
    (fun r => (RDat.FramePost (cfgs 0) (fun c => (dats m 0 c).toRForget outs) (V m)) r ∧ r.2.sem = fun _ => 0) :=
  Pipeline.θ_run_frame_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every semaphore counter at zero. -/
theorem frame_bits : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(RDat.FramePost.arr_in h.1 c 0 rfl).trans ((A_eq m c 0).trans (V_main_arg0 m c)),
      (RDat.FramePost.arr_in h.1 c 1 rfl).trans ((A_eq m c 1).trans (V_main_arg1 m c)),
      (RDat.FramePost.arr_in h.1 c 2 rfl).trans ((A_eq m c 2).trans (V_main_arg2 m c))⟩, h.2⟩) (run_main m ρ)

end Cert.GradInt4.Bits
-- ==== Proof.Spec.lean ====
/- What the kernel computes, as plain mathematics over natural-number coordinates: the scale of a row of 128 values,
   the quantized value, the new error, and the byte that two quantized values are packed in. -/
module

public import Idealize.ShloMosaic.Lib.Pointwise

@[expose] public section

noncomputable section

namespace Cert.GradInt4

open Idealize.ShloMosaic

/-- The greatest absolute value of a row of 128 values. -/
def amax (f : Fin 128 → Ideal .f32) : Ideal .f32 :=
  Finset.univ.fold max (Ideal.ofBits .f32 0xFF800000#32) fun k => FloatOps.absf (F := Ideal) (f k)

/-- The row's scale: a seventh of its greatest absolute value, and one where that value is zero. -/
def qsc (f : Fin 128 → Ideal .f32) : Ideal .f32 :=
  Scalar.select (FloatOps.cmpf (F := Ideal) (φ := .f32) .oeq (amax f) (FloatOps.ofBits .f32 0x00000000#32))
    (FloatOps.ofBits (F := Ideal) .f32 0x3F800000#32)
    (FloatOps.divf (F := Ideal) (amax f) (FloatOps.ofBits (F := Ideal) .f32 0x40E00000#32))

/-- The quantized value of lane `l`: the value over the scale, rounded to even, clipped to [-7, 7], as a word. -/
def qv (f : Fin 128 → Ideal .f32) (l : Fin 128) : BitVec 32 :=
  FloatOps.fptosi (F := Ideal) (φ := .f32) 32 (FloatOps.minimumf (F := Ideal) (FloatOps.sitofp (F := Ideal) .f32 7#32)
    (FloatOps.maximumf (F := Ideal) (FloatOps.sitofp (F := Ideal) .f32 4294967289#32)
      (FloatOps.roundeven (F := Ideal) (FloatOps.divf (F := Ideal) (f l) (qsc f)))))

/-- The new error of lane `l`: the value less its quantized value times the scale. -/
def nerr (f : Fin 128 → Ideal .f32) (l : Fin 128) : Ideal .f32 :=
  FloatOps.subf (F := Ideal) (f l) (FloatOps.mulf (F := Ideal) (FloatOps.sitofp (F := Ideal) .f32 (qv f l)) (qsc f))

/-- The byte of two quantized values: the low four bits of the first below the low four bits of the second. -/
def nib (e o : BitVec 32) : BitVec 8 := ((e &&& 15#32) ||| ((o &&& 15#32) <<< 4)).setWidth 8

/-- Block `b` (128 columns) of row `r` of a table of values. -/
def rowblk (T : ℕ → ℕ → Ideal .f32) (r b : ℕ) : Fin 128 → Ideal .f32 := fun l => T r (128 * b + l.val)

/-- The quantized value of a table at row `r`, column `c`. -/
def qG (T : ℕ → ℕ → Ideal .f32) (r c : ℕ) : BitVec 32 := qv (rowblk T r (c / 128)) ⟨c % 128, Nat.mod_lt _ (by decide)⟩

/-- The new error of a table at row `r`, column `c`. -/
def errG (T : ℕ → ℕ → Ideal .f32) (r c : ℕ) : Ideal .f32 := nerr (rowblk T r (c / 128)) ⟨c % 128, Nat.mod_lt _ (by decide)⟩

/-- The packed byte of a table at row `r`, packed column `c`: the quantized columns `2c` and `2c + 1`. -/
def packG (T : ℕ → ℕ → Ideal .f32) (r c : ℕ) : BitVec 8 := nib (qG T r (2 * c)) (qG T r (2 * c + 1))

/-- The scale of a table at row `r`, block `b`. -/
def scG (T : ℕ → ℕ → Ideal .f32) (r b : ℕ) : Ideal .f32 := qsc (rowblk T r b)

/-- A rank-two array read at natural coordinates, zero outside its bounds. -/
def natv {n m : ℕ} (A : (⟨2, ![n, m]⟩ : Shape).Idx → Ideal .f32) (r c : ℕ) : Ideal .f32 :=
  if h : r < n ∧ c < m then A (ix2 ⟨r, h.1⟩ ⟨c, h.2⟩) else 0

theorem natv_of_lt {n m : ℕ} (A : (⟨2, ![n, m]⟩ : Shape).Idx → Ideal .f32) (r c : ℕ) (hr : r < n) (hc : c < m) :
    natv A r c = A (ix2 ⟨r, hr⟩ ⟨c, hc⟩) := dif_pos ⟨hr, hc⟩

end Cert.GradInt4
-- ==== Proof.Pay.lean ====
/- What the kernel's stored blocks hold at an index: the scale, the quantized value, the new error, and the packed byte. -/
module

public import proofs.«01_k».proof.Proof.Spec
public import proofs.«01_k».proof.Proof.Gen.KernelIdeal.Skeleton
public import Idealize.ShloMosaic.Lib.BitcastFour
@[expose] public section
set_option maxRecDepth 16384
noncomputable section
namespace Cert.GradInt4
open Idealize.ShloMosaic Cert.KernelIdeal Cert.KernelIdeal.Gen

/-- The kernel's scale of a block, at a row: the scale of the row's 128 sums. -/
theorem pay5_apply (a b : Vec Ideal S32x128 .f32) (x : S32x1.Idx) :
    k0_pay5 (F := Ideal) a b x = qsc fun l => a (ix2 (x 0) l) + b (ix2 (x 0) l) := by
  pointwise [k0_pay5, k0_pay4, qsc, amax]

/-- The kernel's quantized block, at an index. -/
theorem pay6_apply (a b : Vec Ideal S32x128 .f32) (r : Fin 32) (l : Fin 128) :
    k0_pay6 (F := Ideal) a b (ix2 r l) = qv (fun l => a (ix2 r l) + b (ix2 r l)) l := by
  pointwise [k0_pay6, pay5_apply, qv, k0_pay4]
  rfl

/-- The kernel's new error of a block, at an index. -/
theorem pay7_apply (a b : Vec Ideal S32x128 .f32) (r : Fin 32) (l : Fin 128) :
    k0_pay7 (F := Ideal) a b (ix2 r l) = nerr (fun l => a (ix2 r l) + b (ix2 r l)) l := by
  pointwise [k0_pay7, pay5_apply, pay6_apply, nerr, k0_pay4]

/-- Byte `s` of a word. -/
def byteAt (x : BitVec 32) (s : ℕ) : BitVec 8 := x.extractLsb' (8 * s) 8

theorem byteAt_or (x y : BitVec 32) (s : ℕ) : byteAt (x ||| y) s = byteAt x s ||| byteAt y s := by
  apply BitVec.eq_of_getLsbD_eq; intro i hi; simp [byteAt, hi]

theorem byteAt_and (x y : BitVec 32) (s : ℕ) : byteAt (x &&& y) s = byteAt x s &&& byteAt y s := by
  apply BitVec.eq_of_getLsbD_eq; intro i hi; simp [byteAt, hi]

/-- A word whose bytes hold four low bits each, moved up by four: byte by byte. -/
theorem byteAt_shl (x : BitVec 32) (s : ℕ) (hs : s < 4) :
    byteAt ((x &&& 252645135#32) <<< 4) s = (byteAt x s &&& 15#8) <<< 4 := by
  apply BitVec.eq_of_getLsbD_eq; intro i hi
  interval_cases s <;> interval_cases i <;> simp [byteAt]

/-- A word moved down by four and cut to the low four bits of each byte: byte by byte. -/
theorem byteAt_shr (x : BitVec 32) (s : ℕ) (hs : s < 4) :
    byteAt (x.sshiftRight 4 &&& 252645135#32) s = (byteAt x s >>> 4) &&& 15#8 := by
  apply BitVec.eq_of_getLsbD_eq; intro i hi
  interval_cases s <;> interval_cases i <;> simp [byteAt, BitVec.getElem_sshiftRight]

theorem byteAt_lo (x : BitVec 32) (s : ℕ) (hs : s < 4) : byteAt (x &&& 252645135#32) s = byteAt x s &&& 15#8 := by
  rw [byteAt_and]; congr 1; interval_cases s <;> rfl

theorem byteAt_hi (x : BitVec 32) (s : ℕ) (hs : s < 4) : byteAt (x &&& 4042322160#32) s = byteAt x s &&& 240#8 := by
  rw [byteAt_and]; congr 1; interval_cases s <;> rfl

/-- Two bytes' low halves joined, then split again. -/
theorem byte_lo (a b c d : BitVec 8) :
    ((a &&& 15#8 ||| (b &&& 15#8) <<< 4) &&& 15#8) ||| (((c &&& 15#8 ||| (d &&& 15#8) <<< 4) &&& 15#8) <<< 4)
      = (a &&& 15#8) ||| ((c &&& 15#8) <<< 4) := by
  apply BitVec.eq_of_getLsbD_eq; intro i hi
  interval_cases i <;> simp

theorem byte_hi (a b c d : BitVec 8) :
    (((a &&& 15#8 ||| (b &&& 15#8) <<< 4) >>> 4) &&& 15#8) ||| ((c &&& 15#8 ||| (d &&& 15#8) <<< 4) &&& 240#8)
      = (b &&& 15#8) ||| ((d &&& 15#8) <<< 4) := by
  apply BitVec.eq_of_getLsbD_eq; intro i hi
  interval_cases i <;> simp

theorem nib_eq (e o : BitVec 32) : nib e o = (e.setWidth 8 &&& 15#8) ||| ((o.setWidth 8 &&& 15#8) <<< 4) := by
  apply BitVec.eq_of_getLsbD_eq; intro i hi
  interval_cases i <;> simp [nib]

/-- Byte `s` of a word made of four rows of bytes is the byte of row `4a + s`. -/
theorem byteAt_bitcast (x : S32x128.Idx → BitVec 8) (a : Fin 8) (l : Fin 128) (s : Fin 4) :
    byteAt (bitcast S8x128 32 x bitcasts_S32x128_w8_S8x128_w32 (ix2 a l)) s.val = x (ix2 ⟨4 * a.val + s.val, by omega⟩ l) := by
  apply BitVec.eq_of_getLsbD_eq; intro i hi
  rw [byteAt, BitVec.getLsbD_extractLsb']
  have hs := s.isLt
  have := bitcast_8_32_getLsbD_ix2 x bitcasts_S32x128_w8_S8x128_w32 a l (8 * s.val + i) (by omega) ⟨4 * a.val + s.val, by omega⟩
    (by show 4 * a.val + s.val = _; omega)
  rw [show (8 * s.val + i) % 8 = i by omega] at this
  simp only [hi, decide_true, Bool.true_and]
  exact this

/-- A word vector read as bytes. -/
theorem bitcast_word (x : S8x128.Idx → BitVec 32) (r : Fin 32) (l : Fin 128) :
    bitcast S32x128 8 x bitcasts_S8x128_w32_S32x128_w8 (ix2 r l) = byteAt (x (ix2 ⟨r.val / 4, by omega⟩ l)) (r.val % 4) := by
  apply BitVec.eq_of_getLsbD_eq; intro i hi
  rw [byteAt, BitVec.getLsbD_extractLsb', bitcast_getLsbD _ _ _ i hi (by decide)]
  have h0 : S32x128.row (ix2 r l) = r.val := rfl
  have e1 : (S32x128.row (ix2 r l) * 8 + i) / 32 = r.val / 4 := by rw [h0]; omega
  have e2 : (S32x128.row (ix2 r l) * 8 + i) % 32 = 8 * (r.val % 4) + i := by rw [h0]; omega
  rw [e2]
  simp only [hi, decide_true, Bool.true_and]
  congr 2
  funext c
  match c with
  | ⟨0, _⟩ => exact Fin.ext (((bitcasts_S8x128_w32_S32x128_w8).srcIdx_row _ _ _ ⟨0, Nat.zero_lt_two⟩ rfl).trans e1)
  | ⟨1, _⟩ => exact Fin.ext ((bitcasts_S8x128_w32_S32x128_w8).srcIdx_other _ _ _ ⟨1, Nat.one_lt_two⟩ (by show ¬ 1 + 2 = 2; omega))

theorem gidx_even : ∀ l : Fin 128, (Scalar.select (IntOp.cmpi CmpIPredicate.slt (IntOp.andi (IntOp.muli (2#32) (BitVec.ofNat 32 l.val)) 127#32) 0#32)
    (IntOp.addi (IntOp.andi (IntOp.muli (2#32) (BitVec.ofNat 32 l.val)) 127#32) 128#32)
    (IntOp.andi (IntOp.muli (2#32) (BitVec.ofNat 32 l.val)) 127#32)).toNat % 128 = 2 * l.val % 128 := by decide

theorem gidx_odd : ∀ l : Fin 128, (Scalar.select (IntOp.cmpi CmpIPredicate.slt
      (IntOp.addi (IntOp.andi (IntOp.muli (2#32) (BitVec.ofNat 32 l.val)) 127#32) 1#32) 0#32)
    (IntOp.addi (IntOp.addi (IntOp.andi (IntOp.muli (2#32) (BitVec.ofNat 32 l.val)) 127#32) 1#32) 128#32)
    (IntOp.addi (IntOp.andi (IntOp.muli (2#32) (BitVec.ofNat 32 l.val)) 127#32) 1#32)).toNat % 128 = 2 * l.val % 128 + 1 := by decide

theorem lane_lt : ∀ l : Fin 128, IntOp.cmpi CmpIPredicate.slt (BitVec.ofNat 32 l.val) 64#32 = if l.val < 64 then 1#1 else 0#1 := by decide

theorem shl4 (x : BitVec 32) : IntOp.shli ArithUnit.vector x 4#32 = x <<< 4 := rfl
theorem shr4 (x : BitVec 32) : IntOp.shrsi ArithUnit.vector x 4#32 = x.sshiftRight 4 := rfl

/-- The word at an index after the kernel's lane gathers, before it is read as bytes. -/
theorem pay16_apply (A B : IVec S8x128 32) (r : Fin 32) (l : Fin 128) :
    k0_pay16 A B 4#32 (ix2 r l) =
      (let W : Fin 128 → BitVec 32 := fun m => A (ix2 ⟨r.val / 4, by omega⟩ m) ||| (B (ix2 ⟨r.val / 4, by omega⟩ m) <<< 4)
       let e := W ⟨2 * l.val % 128, by omega⟩
       let o := W ⟨2 * l.val % 128 + 1, by omega⟩
       if l.val < 64 then byteAt ((e &&& 252645135#32) ||| ((o &&& 252645135#32) <<< 4)) (r.val % 4)
       else byteAt ((e.sshiftRight 4 &&& 252645135#32) ||| (o &&& 4042322160#32)) (r.val % 4)) := by
  unfold k0_pay16
  dsimp only
  rw [bitcast_word]
  pointwise []
  simp only [gidx_even, gidx_odd, lane_lt, shl4, shr4]
  by_cases h : l.val < 64
  · simp only [h, if_true]; rfl
  · simp only [h, if_false]; rfl

/-- The kernel's packing of two blocks of words that hold one quantized value each: at a packed lane, the byte of the two
    neighbouring columns of the 256 the pair holds. -/
theorem pack_apply (qa qb : IVec S32x128 32) (r : Fin 32) (l : Fin 128) :
    k0_pay16 (k0_pay14 qa) (andi (bitcast S8x128 32 (trunci 8 qb natLt_8_32) bitcasts_S32x128_w8_S8x128_w32) (broadcast S8x128 252645135#32)) 4#32 (ix2 r l)
      = nib ((if l.val < 64 then qa else qb) (ix2 r ⟨2 * l.val % 128, by omega⟩))
          ((if l.val < 64 then qa else qb) (ix2 r ⟨2 * l.val % 128 + 1, by omega⟩)) := by
  rw [pay16_apply]
  have hs : r.val % 4 < 4 := by omega
  have hr : (⟨4 * (r.val / 4) + r.val % 4, by omega⟩ : Fin 32) = r := Fin.ext (by show 4 * (r.val / 4) + r.val % 4 = _; omega)
  have hb (q : IVec S32x128 32) (m : Fin 128) :
      byteAt (bitcast S8x128 32 (trunci 8 q natLt_8_32) bitcasts_S32x128_w8_S8x128_w32 (ix2 ⟨r.val / 4, by omega⟩ m)) (r.val % 4)
        = (q (ix2 r m)).setWidth 8 := by
    have := byteAt_bitcast (trunci 8 q natLt_8_32) ⟨r.val / 4, by omega⟩ m ⟨r.val % 4, hs⟩
    dsimp only at this
    rw [hr] at this
    exact this
  have hA (q : IVec S32x128 32) (m : Fin 128) : k0_pay14 q (ix2 ⟨r.val / 4, by omega⟩ m)
      = bitcast S8x128 32 (trunci 8 q natLt_8_32) bitcasts_S32x128_w8_S8x128_w32 (ix2 ⟨r.val / 4, by omega⟩ m) &&& 252645135#32 := rfl
  have hB (q : IVec S32x128 32) (m : Fin 128) :
      andi (bitcast S8x128 32 (trunci 8 q natLt_8_32) bitcasts_S32x128_w8_S8x128_w32) (broadcast S8x128 252645135#32) (ix2 ⟨r.val / 4, by omega⟩ m)
      = bitcast S8x128 32 (trunci 8 q natLt_8_32) bitcasts_S32x128_w8_S8x128_w32 (ix2 ⟨r.val / 4, by omega⟩ m) &&& 252645135#32 := rfl
  dsimp only
  simp only [hA, hB]
  by_cases h : l.val < 64
  · simp only [h, if_true, byteAt_or, byteAt_shl _ _ hs, byteAt_lo _ _ hs, hb, byte_lo, nib_eq]
  · simp only [h, if_false, byteAt_or, byteAt_shr _ _ hs, byteAt_shl _ _ hs, byteAt_hi _ _ hs, byteAt_lo _ _ hs, hb, byte_hi, nib_eq]

end Cert.GradInt4
-- ==== Proof.Trip.lean ====
/- One trip of the kernel's loop over rows, as what it writes: the packed bytes, the scales and the new errors of rows
   32k … 32k + 31 of a tile, each stated at an index. -/
module

public import proofs.«01_k».proof.Proof.Pay
public import proofs.«01_k».proof.Proof.Gen.KernelIdeal.Loops
@[expose] public section

set_option maxRecDepth 16384
noncomputable section

namespace Cert.GradInt4

open Idealize.ShloMosaic Idealize.ShloMosaic.TcCoe Idealize.ShloMosaic.Tactic
open Idealize.SL Idealize.SL.RA Idealize.SL.BI
open Cert.KernelIdeal Cert.KernelIdeal.Gen

variable (𝒱 : Variants) (c : Dev nD) (bd : Option 𝒱.V) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (arg1 : BitVec 32) (k0_h2 : k0_cond2 i = 1#1) (v14 : IVec S32x56 32) (X_arg5 : BufTy.Contents (Elt Ideal) arg5.view.ty) (X_arg9 : BufTy.Contents (Elt Ideal) arg9.view.ty)

/-- A 32 x 128 block of the accumulator (or of the error tile) as the loop loads it. -/
abbrev ldv (m : Memref sig .tc .vmem S1024x1024 .f32) (X : BufTy.Contents (Elt Ideal) m.view.ty) (off : Fin 2 → ℕ)
    (h : ∀ a, off a + S32x128.size a ≤ S1024x1024.size a) : Vec Ideal S32x128 .f32 :=
  View.readAt (Elt Ideal) m.view (Rect.unit (s := S1024x1024) off S32x128.size h).toLoadRect X

/-- The new-error piece of the block at an offset. -/
abbrev pcE (off : Fin 2 → ℕ) (h : ∀ a, off a + S32x128.size a ≤ S1024x1024.size a) : View.Piece (Elt Ideal) S1024x1024 .f32 :=
  ⟨Rect.unit (s := S1024x1024) off S32x128.size h, k0_pay7 (F := Ideal) (ldv arg9 X_arg9 off h) (ldv arg5 X_arg5 off h)⟩

/-- The quantized block at an offset. -/
abbrev qB (off : Fin 2 → ℕ) (h : ∀ a, off a + S32x128.size a ≤ S1024x1024.size a) : IVec S32x128 32 :=
  k0_pay6 (F := Ideal) (ldv arg9 X_arg9 off h) (ldv arg5 X_arg5 off h)

/-- The packed piece of two neighbouring blocks. -/
abbrev pcP (off : Fin 2 → ℕ) (h : ∀ a, off a + S32x128.size a ≤ S1024x512.size a) (qa qb : IVec S32x128 32) :
    View.Piece (Elt Ideal) S1024x512 .i8 :=
  ⟨Rect.unit (s := S1024x512) off S32x128.size h,
    k0_pay16 (k0_pay14 qa) (andi (bitcast S8x128 32 (trunci 8 qb natLt_8_32) bitcasts_S32x128_w8_S8x128_w32) (broadcast S8x128 252645135#32)) 4#32⟩

/-- One step of the scale row: lane `8 j + b` takes the block's scale, the other lanes stay. -/
abbrev selS (b : BitVec 32) (off : Fin 2 → ℕ) (h : ∀ a, off a + S32x128.size a ≤ S1024x1024.size a) (p : FVec Ideal S32x56 .f32) : FVec Ideal S32x56 .f32 :=
  select (cmpi .eq v14 (broadcast S32x56 (Scalar.addi (Scalar.muli arg1 8#32) b)))
    (broadcastTo S32x56 (shapeCast S32x1 (k0_pay5 (F := Ideal) (ldv arg9 X_arg9 off h) (ldv arg5 X_arg5 off h)) shapeCasts_S32x1_S32x1) broadcasts_S32x1_S32x56) p

set_option maxHeartbeats 4000000 in
theorem trip_eq (k : Fin k0_t1_loop.trips) (f6 : BufTy.Contents (Elt Ideal) arg6.view.ty) (f7 : BufTy.Contents (Elt Ideal) arg7.view.ty) (f8 : BufTy.Contents (Elt Ideal) arg8.view.ty) :
    tripL_k0_t1 (F := Ideal) 𝒱 c bd i arg3 harg3 arg4 harg4 arg5 harg5 arg6 harg6 arg7 harg7 arg8 harg8 arg9 harg9 arg1 k0_h2 v14 X_arg5 X_arg9 k f6 f7 f8
      = ([pcP (k0_off13 k) (k0_off13_inb i k k0_h2) (qB arg5 arg9 X_arg5 X_arg9 (k0_off11 k) (k0_off11_inb i k k0_h2)) (qB arg5 arg9 X_arg5 X_arg9 (k0_off12 k) (k0_off12_inb i k k0_h2)),
          pcP (k0_off10 k) (k0_off10_inb i k k0_h2) (qB arg5 arg9 X_arg5 X_arg9 (k0_off8 k) (k0_off8_inb i k k0_h2)) (qB arg5 arg9 X_arg5 X_arg9 (k0_off9 k) (k0_off9_inb i k k0_h2)),
          pcP (k0_off7 k) (k0_off7_inb i k k0_h2) (qB arg5 arg9 X_arg5 X_arg9 (k0_off5 k) (k0_off5_inb i k k0_h2)) (qB arg5 arg9 X_arg5 X_arg9 (k0_off6 k) (k0_off6_inb i k k0_h2)),
          pcP (k0_off4 k) (k0_off4_inb i k k0_h2) (qB arg5 arg9 X_arg5 X_arg9 (k0_off2 k) (k0_off2_inb i k k0_h2)) (qB arg5 arg9 X_arg5 X_arg9 (k0_off3 k) (k0_off3_inb i k k0_h2))],
         [⟨Rect.unit (s := S1024x56) (k0_off1 k) S32x56.size (k0_off1_inb i k k0_h2),
            selS arg5 arg9 arg1 v14 X_arg5 X_arg9 7#32 (k0_off12 k) (k0_off12_inb i k k0_h2)
            (selS arg5 arg9 arg1 v14 X_arg5 X_arg9 6#32 (k0_off11 k) (k0_off11_inb i k k0_h2)
            (selS arg5 arg9 arg1 v14 X_arg5 X_arg9 5#32 (k0_off9 k) (k0_off9_inb i k k0_h2)
            (selS arg5 arg9 arg1 v14 X_arg5 X_arg9 4#32 (k0_off8 k) (k0_off8_inb i k k0_h2)
            (selS arg5 arg9 arg1 v14 X_arg5 X_arg9 3#32 (k0_off6 k) (k0_off6_inb i k k0_h2)
            (selS arg5 arg9 arg1 v14 X_arg5 X_arg9 2#32 (k0_off5 k) (k0_off5_inb i k k0_h2)
            (selS arg5 arg9 arg1 v14 X_arg5 X_arg9 1#32 (k0_off3 k) (k0_off3_inb i k k0_h2)
            (selS arg5 arg9 arg1 v14 X_arg5 X_arg9 0#32 (k0_off2 k) (k0_off2_inb i k k0_h2)
            (shapeCast S32x56 (View.readAt (Elt Ideal) arg7.view (Rect.unit (s := S1024x56) (k0_off1 k) S32x56.size (k0_off1_inb i k k0_h2)).toLoadRect f7) shapeCasts_S32x56_S32x56))))))))⟩],
         [pcE arg5 arg9 X_arg5 X_arg9 (k0_off12 k) (k0_off12_inb i k k0_h2), pcE arg5 arg9 X_arg5 X_arg9 (k0_off11 k) (k0_off11_inb i k k0_h2),
          pcE arg5 arg9 X_arg5 X_arg9 (k0_off9 k) (k0_off9_inb i k k0_h2), pcE arg5 arg9 X_arg5 X_arg9 (k0_off8 k) (k0_off8_inb i k k0_h2),
          pcE arg5 arg9 X_arg5 X_arg9 (k0_off6 k) (k0_off6_inb i k k0_h2), pcE arg5 arg9 X_arg5 X_arg9 (k0_off5 k) (k0_off5_inb i k k0_h2),
          pcE arg5 arg9 X_arg5 X_arg9 (k0_off3 k) (k0_off3_inb i k k0_h2), pcE arg5 arg9 X_arg5 X_arg9 (k0_off2 k) (k0_off2_inb i k k0_h2)]) := by
  unfold tripL_k0_t1 trip_k0_t1
  rfl

end Cert.GradInt4
-- ==== Proof.TripRead.lean ====
/- The loop over rows read at an index: after `n` trips rows below `32 n` of a tile hold the packed bytes, the scales and
   the new errors of the tile's values, the other rows what they held before. -/
module

public import proofs.«01_k».proof.Proof.Trip
@[expose] public section

set_option maxRecDepth 16384
noncomputable section

namespace Cert.GradInt4

open Idealize.ShloMosaic Idealize.ShloMosaic.TcCoe Idealize.ShloMosaic.Tactic
open Idealize.SL Idealize.SL.RA Idealize.SL.BI
open Cert.KernelIdeal Cert.KernelIdeal.Gen

variable (𝒱 : Variants) (c : Dev nD) (bd : Option 𝒱.V) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (arg1 : BitVec 32) (k0_h2 : k0_cond2 i = 1#1) (v14 : IVec S32x56 32) (X_arg5 : BufTy.Contents (Elt Ideal) arg5.view.ty) (X_arg9 : BufTy.Contents (Elt Ideal) arg9.view.ty)

/-- The tile's values, accumulator plus error, over natural coordinates. -/
abbrev tileT : ℕ → ℕ → Ideal .f32 := fun r c =>
  natv (arg9.view.read (Elt Ideal) X_arg9) r c + natv (arg5.view.read (Elt Ideal) X_arg5) r c

/-- A loaded block at an index is the tile at the offset plus the index. -/
theorem ldv_apply (m : Memref sig .tc .vmem S1024x1024 .f32) (X : BufTy.Contents (Elt Ideal) m.view.ty) (off : Fin 2 → ℕ)
    (h : ∀ a, off a + S32x128.size a ≤ S1024x1024.size a) (R C : ℕ) (ho : off = ![R, C]) (r : Fin 32) (l : Fin 128) :
    ldv m X off h (ix2 r l) = natv (m.view.read (Elt Ideal) X) (R + r.val) (C + l.val) := by
  subst ho
  have h0 : R + 32 ≤ 1024 := h 0
  have h1 : C + 128 ≤ 1024 := h 1
  rw [natv_of_lt _ _ _ (by omega) (by omega)]
  unfold ldv
  rw [View.readAt_apply]
  congr 1
  funext a
  apply Fin.ext
  match a with
  | ⟨0, _⟩ => show R + 1 * r.val = R + r.val; omega
  | ⟨1, _⟩ => show C + 1 * l.val = C + l.val; omega

/-- The row of sums a block's row holds is the tile's block. -/
theorem ldv_row (off : Fin 2 → ℕ) (h : ∀ a, off a + S32x128.size a ≤ S1024x1024.size a) (R b : ℕ) (ho : off = ![R, 128 * b]) (r : Fin 32) :
    (fun l => ldv arg9 X_arg9 off h (ix2 r l) + ldv arg5 X_arg5 off h (ix2 r l) : Fin 128 → Ideal .f32)
      = rowblk (tileT arg5 arg9 X_arg5 X_arg9) (R + r.val) b := by
  funext l
  rw [ldv_apply arg9 X_arg9 off h R _ ho, ldv_apply arg5 X_arg5 off h R _ ho]
  rfl

/-- The new-error piece at an index. -/
theorem pcE_apply (off : Fin 2 → ℕ) (h : ∀ a, off a + S32x128.size a ≤ S1024x1024.size a) (R b : ℕ) (ho : off = ![R, 128 * b])
    (x : (pcE arg5 arg9 X_arg5 X_arg9 off h).1.shape.Idx) :
    (pcE arg5 arg9 X_arg5 X_arg9 off h).2 x
      = errG (tileT arg5 arg9 X_arg5 X_arg9) ((pcE arg5 arg9 X_arg5 X_arg9 off h).1.emb x 0).val ((pcE arg5 arg9 X_arg5 X_arg9 off h).1.emb x 1).val := by
  obtain ⟨r, l, rfl⟩ : ∃ (r : Fin 32) (l : Fin 128), x = ix2 r l := ⟨x 0, x 1, eq_ix2 x⟩
  have e0 : ((pcE arg5 arg9 X_arg5 X_arg9 off h).1.emb (ix2 r l) 0).val = R + r.val := by
    subst ho; show R + 1 * r.val = _; omega
  have e1 : ((pcE arg5 arg9 X_arg5 X_arg9 off h).1.emb (ix2 r l) 1).val = 128 * b + l.val := by
    subst ho; show 128 * b + 1 * l.val = _; omega
  rw [e0, e1]
  show k0_pay7 (F := Ideal) _ _ (ix2 r l) = _
  rw [pay7_apply, ldv_row arg5 arg9 X_arg5 X_arg9 off h R b ho]
  unfold errG
  have hl := l.isLt
  congr 1
  · congr 1; omega
  · apply Fin.ext; show l.val = (128 * b + l.val) % 128; omega

/-- The quantized block at an index. -/
theorem qB_apply (off : Fin 2 → ℕ) (h : ∀ a, off a + S32x128.size a ≤ S1024x1024.size a) (R b : ℕ) (ho : off = ![R, 128 * b])
    (r : Fin 32) (l : Fin 128) (C : ℕ) (hC : C = 128 * b + l.val) :
    qB arg5 arg9 X_arg5 X_arg9 off h (ix2 r l) = qG (tileT arg5 arg9 X_arg5 X_arg9) (R + r.val) C := by
  subst hC
  unfold qB
  rw [pay6_apply, ldv_row arg5 arg9 X_arg5 X_arg9 off h R b ho]
  unfold qG
  have hl := l.isLt
  congr 1
  · congr 1; omega
  · apply Fin.ext; show l.val = (128 * b + l.val) % 128; omega

/-- The packed piece of blocks `2p` and `2p + 1` at an index. -/
theorem pcP_apply (off : Fin 2 → ℕ) (h : ∀ a, off a + S32x128.size a ≤ S1024x512.size a) (R p : ℕ) (ho : off = ![R, 128 * p])
    (offa : Fin 2 → ℕ) (ha : ∀ a, offa a + S32x128.size a ≤ S1024x1024.size a) (hoa : offa = ![R, 128 * (2 * p)])
    (offb : Fin 2 → ℕ) (hb : ∀ a, offb a + S32x128.size a ≤ S1024x1024.size a) (hob : offb = ![R, 128 * (2 * p + 1)])
    (x : (pcP off h (qB arg5 arg9 X_arg5 X_arg9 offa ha) (qB arg5 arg9 X_arg5 X_arg9 offb hb)).1.shape.Idx) :
    (pcP off h (qB arg5 arg9 X_arg5 X_arg9 offa ha) (qB arg5 arg9 X_arg5 X_arg9 offb hb)).2 x
      = packG (tileT arg5 arg9 X_arg5 X_arg9)
          ((pcP off h (qB arg5 arg9 X_arg5 X_arg9 offa ha) (qB arg5 arg9 X_arg5 X_arg9 offb hb)).1.emb x 0).val
          ((pcP off h (qB arg5 arg9 X_arg5 X_arg9 offa ha) (qB arg5 arg9 X_arg5 X_arg9 offb hb)).1.emb x 1).val := by
  obtain ⟨r, l, rfl⟩ : ∃ (r : Fin 32) (l : Fin 128), x = ix2 r l := ⟨x 0, x 1, eq_ix2 x⟩
  have e0 : ((pcP off h (qB arg5 arg9 X_arg5 X_arg9 offa ha) (qB arg5 arg9 X_arg5 X_arg9 offb hb)).1.emb (ix2 r l) 0).val = R + r.val := by
    subst ho; show R + 1 * r.val = _; omega
  have e1 : ((pcP off h (qB arg5 arg9 X_arg5 X_arg9 offa ha) (qB arg5 arg9 X_arg5 X_arg9 offb hb)).1.emb (ix2 r l) 1).val = 128 * p + l.val := by
    subst ho; show 128 * p + 1 * l.val = _; omega
  rw [e0, e1]
  refine (pack_apply (qB arg5 arg9 X_arg5 X_arg9 offa ha) (qB arg5 arg9 X_arg5 X_arg9 offb hb) r l).trans ?_
  unfold packG
  have hl := l.isLt
  by_cases hl6 : l.val < 64
  · simp only [hl6, if_true]
    exact congrArg₂ nib
      (qB_apply arg5 arg9 X_arg5 X_arg9 offa ha R (2 * p) hoa r ⟨2 * l.val % 128, by omega⟩ (2 * (128 * p + l.val)) (by show _ = _ + 2 * l.val % 128; omega))
      (qB_apply arg5 arg9 X_arg5 X_arg9 offa ha R (2 * p) hoa r ⟨2 * l.val % 128 + 1, by omega⟩ (2 * (128 * p + l.val) + 1) (by show _ = _ + (2 * l.val % 128 + 1); omega))
  · simp only [hl6, if_false]
    exact congrArg₂ nib
      (qB_apply arg5 arg9 X_arg5 X_arg9 offb hb R (2 * p + 1) hob r ⟨2 * l.val % 128, by omega⟩ (2 * (128 * p + l.val)) (by show _ = _ + 2 * l.val % 128; omega))
      (qB_apply arg5 arg9 X_arg5 X_arg9 offb hb R (2 * p + 1) hob r ⟨2 * l.val % 128 + 1, by omega⟩ (2 * (128 * p + l.val) + 1) (by show _ = _ + (2 * l.val % 128 + 1); omega))

theorem lane_eq : ∀ (l : Fin 56) (jj : Fin 7) (b : Fin 8),
    IntOp.cmpi .eq (BitVec.ofNat 32 l.val) (Scalar.addi (Scalar.muli (BitVec.ofNat 32 jj.val) 8#32) (BitVec.ofNat 32 b.val))
      = if l.val = 8 * jj.val + b.val then 1#1 else 0#1 := by decide +kernel

/-- One step of the scale row at an index. -/
theorem selS_apply (jj : Fin 7) (harg1 : arg1 = BitVec.ofNat 32 jj.val) (hv : ∀ x, v14 x = BitVec.ofNat 32 (x 1).val)
    (b : Fin 8) (bw : BitVec 32) (hbw : bw = BitVec.ofNat 32 b.val) (off : Fin 2 → ℕ) (h : ∀ a, off a + S32x128.size a ≤ S1024x1024.size a)
    (R : ℕ) (ho : off = ![R, 128 * b.val]) (p : FVec Ideal S32x56 .f32) (r : Fin 32) (l : Fin 56) :
    selS arg5 arg9 arg1 v14 X_arg5 X_arg9 bw off h p (ix2 r l)
      = if l.val = 8 * jj.val + b.val then scG (tileT arg5 arg9 X_arg5 X_arg9) (R + r.val) b.val else p (ix2 r l) := by
  subst harg1 hbw
  unfold selS
  pointwise [pay5_apply]
  rw [hv]
  show Scalar.select (IntOp.cmpi .eq (BitVec.ofNat 32 l.val) _) _ _ = _
  rw [lane_eq]
  have hrow := ldv_row arg5 arg9 X_arg5 X_arg9 off h R b.val ho r
  by_cases hl : l.val = 8 * jj.val + b.val
  · simp only [hl, if_true, Scalar.select]
    exact congrArg qsc hrow
  · simp only [hl, if_false, Scalar.select]
    rfl

end Cert.GradInt4
-- ==== Proof.TripLoop.lean ====
/- The loop over rows read at an index: after `n` trips rows below `32 n` of a tile hold the packed bytes, the scales and
   the new errors of the tile's values, the other rows what they held before. -/
module

public import proofs.«01_k».proof.Proof.TripRead
public import Idealize.ShloMosaic.Lib.WritesUnit
@[expose] public section

set_option maxRecDepth 16384
noncomputable section

namespace Cert.GradInt4

open Idealize.ShloMosaic Idealize.ShloMosaic.TcCoe Idealize.ShloMosaic.Tactic
open Idealize.SL Idealize.SL.RA Idealize.SL.BI
open Cert.KernelIdeal Cert.KernelIdeal.Gen

variable (𝒱 : Variants) (c : Dev nD) (bd : Option 𝒱.V) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (arg1 : BitVec 32) (k0_h2 : k0_cond2 i = 1#1) (v14 : IVec S32x56 32) (X_arg5 : BufTy.Contents (Elt Ideal) arg5.view.ty) (X_arg9 : BufTy.Contents (Elt Ideal) arg9.view.ty)

/-- Membership in a 32-row, W-column rectangle of a rank-two array. -/
theorem mem_rect {n m : ℕ} (off size : Fin 2 → ℕ) (h : ∀ a, off a + size a ≤ (⟨2, ![n, m]⟩ : Shape).size a) (R C H W : ℕ)
    (ho : off = ![R, C]) (hs : size = ![H, W]) (y : (⟨2, ![n, m]⟩ : Shape).Idx) :
    y ∈ (Rect.unit (s := ⟨2, ![n, m]⟩) off size h).set ↔ (R ≤ (y 0).val ∧ (y 0).val < R + H) ∧ (C ≤ (y 1).val ∧ (y 1).val < C + W) := by
  subst ho hs
  rw [Rect.mem_set_unit]
  exact Fin.forall_fin_two

/-- The new-error tile after one trip. -/
theorem trip8 (k : Fin k0_t1_loop.trips) (f6 : BufTy.Contents (Elt Ideal) arg6.view.ty) (f7 : BufTy.Contents (Elt Ideal) arg7.view.ty) (f8 : BufTy.Contents (Elt Ideal) arg8.view.ty)
    (y : S1024x1024.Idx) :
    arg8.view.read (Elt Ideal) (arg8.view.writes (Elt Ideal) f8 (tripL_k0_t1 (F := Ideal) 𝒱 c bd i arg3 harg3 arg4 harg4 arg5 harg5 arg6 harg6 arg7 harg7 arg8 harg8 arg9 harg9 arg1 k0_h2 v14 X_arg5 X_arg9 k f6 f7 f8).2.2) y
      = if 32 * k.val ≤ (y 0).val ∧ (y 0).val < 32 * k.val + 32 then errG (tileT arg5 arg9 X_arg5 X_arg9) (y 0).val (y 1).val
        else arg8.view.read (Elt Ideal) f8 y := by
  rw [trip_eq]
  have hy1 : (y 1).val < 1024 := (y 1).isLt
  split_ifs with hy
  · refine View.read_writes_apply_of_pieces arg8.view f8 (fun y => errG (tileT arg5 arg9 X_arg5 X_arg9) (y 0).val (y 1).val) _ ?_ y ?_
    · simp only [List.forall_mem_cons, List.not_mem_nil, false_imp_iff, implies_true, and_true]
      exact ⟨pcE_apply _ _ _ _ _ _ (32 * k.val) 7 (k0_off12_eq k), pcE_apply _ _ _ _ _ _ (32 * k.val) 6 (k0_off11_eq k),
        pcE_apply _ _ _ _ _ _ (32 * k.val) 5 (k0_off9_eq k), pcE_apply _ _ _ _ _ _ (32 * k.val) 4 (k0_off8_eq k),
        pcE_apply _ _ _ _ _ _ (32 * k.val) 3 (k0_off6_eq k), pcE_apply _ _ _ _ _ _ (32 * k.val) 2 (k0_off5_eq k),
        pcE_apply _ _ _ _ _ _ (32 * k.val) 1 (k0_off3_eq k), pcE_apply _ _ _ _ _ _ (32 * k.val) 0 (k0_off2_eq k)⟩
    · simp only [List.exists_mem_cons_iff, List.not_mem_nil, false_and, exists_false, or_false]
      rw [mem_rect _ _ _ _ _ _ _ (k0_off12_eq k) rfl, mem_rect _ _ _ _ _ _ _ (k0_off11_eq k) rfl, mem_rect _ _ _ _ _ _ _ (k0_off9_eq k) rfl,
        mem_rect _ _ _ _ _ _ _ (k0_off8_eq k) rfl, mem_rect _ _ _ _ _ _ _ (k0_off6_eq k) rfl, mem_rect _ _ _ _ _ _ _ (k0_off5_eq k) rfl,
        mem_rect _ _ _ _ _ _ _ (k0_off3_eq k) rfl, mem_rect _ _ _ _ _ _ _ (k0_off2_eq k) rfl]
      omega
  · refine View.read_writes_apply_of_forall_not_mem arg8.view f8 y _ ?_
    simp only [List.forall_mem_cons, List.not_mem_nil, false_imp_iff, implies_true, and_true]
    rw [mem_rect _ _ _ _ _ _ _ (k0_off12_eq k) rfl, mem_rect _ _ _ _ _ _ _ (k0_off11_eq k) rfl, mem_rect _ _ _ _ _ _ _ (k0_off9_eq k) rfl,
        mem_rect _ _ _ _ _ _ _ (k0_off8_eq k) rfl, mem_rect _ _ _ _ _ _ _ (k0_off6_eq k) rfl, mem_rect _ _ _ _ _ _ _ (k0_off5_eq k) rfl,
        mem_rect _ _ _ _ _ _ _ (k0_off3_eq k) rfl, mem_rect _ _ _ _ _ _ _ (k0_off2_eq k) rfl]
    omega

/-- The packed tile after one trip. -/
theorem trip6 (k : Fin k0_t1_loop.trips) (f6 : BufTy.Contents (Elt Ideal) arg6.view.ty) (f7 : BufTy.Contents (Elt Ideal) arg7.view.ty) (f8 : BufTy.Contents (Elt Ideal) arg8.view.ty)
    (y : S1024x512.Idx) :
    arg6.view.read (Elt Ideal) (arg6.view.writes (Elt Ideal) f6 (tripL_k0_t1 (F := Ideal) 𝒱 c bd i arg3 harg3 arg4 harg4 arg5 harg5 arg6 harg6 arg7 harg7 arg8 harg8 arg9 harg9 arg1 k0_h2 v14 X_arg5 X_arg9 k f6 f7 f8).1) y
      = if 32 * k.val ≤ (y 0).val ∧ (y 0).val < 32 * k.val + 32 then packG (tileT arg5 arg9 X_arg5 X_arg9) (y 0).val (y 1).val
        else arg6.view.read (Elt Ideal) f6 y := by
  rw [trip_eq]
  have hy1 : (y 1).val < 512 := (y 1).isLt
  split_ifs with hy
  · refine View.read_writes_apply_of_pieces arg6.view f6 (fun y => packG (tileT arg5 arg9 X_arg5 X_arg9) (y 0).val (y 1).val) _ ?_ y ?_
    · simp only [List.forall_mem_cons, List.not_mem_nil, false_imp_iff, implies_true, and_true]
      exact ⟨pcP_apply _ _ _ _ _ _ (32 * k.val) 3 (k0_off13_eq k) _ _ (k0_off11_eq k) _ _ (k0_off12_eq k),
        pcP_apply _ _ _ _ _ _ (32 * k.val) 2 (k0_off10_eq k) _ _ (k0_off8_eq k) _ _ (k0_off9_eq k),
        pcP_apply _ _ _ _ _ _ (32 * k.val) 1 (k0_off7_eq k) _ _ (k0_off5_eq k) _ _ (k0_off6_eq k),
        pcP_apply _ _ _ _ _ _ (32 * k.val) 0 (k0_off4_eq k) _ _ (k0_off2_eq k) _ _ (k0_off3_eq k)⟩
    · simp only [List.exists_mem_cons_iff, List.not_mem_nil, false_and, exists_false, or_false]
      rw [mem_rect _ _ _ _ _ _ _ (k0_off13_eq k) rfl, mem_rect _ _ _ _ _ _ _ (k0_off10_eq k) rfl, mem_rect _ _ _ _ _ _ _ (k0_off7_eq k) rfl,
        mem_rect _ _ _ _ _ _ _ (k0_off4_eq k) rfl]
      omega
  · refine View.read_writes_apply_of_forall_not_mem arg6.view f6 y _ ?_
    simp only [List.forall_mem_cons, List.not_mem_nil, false_imp_iff, implies_true, and_true]
    rw [mem_rect _ _ _ _ _ _ _ (k0_off13_eq k) rfl, mem_rect _ _ _ _ _ _ _ (k0_off10_eq k) rfl, mem_rect _ _ _ _ _ _ _ (k0_off7_eq k) rfl,
        mem_rect _ _ _ _ _ _ _ (k0_off4_eq k) rfl]
    omega

/-- The scale rows after one trip, of column tile `jj`: lanes `8 jj … 8 jj + 7` of the trip's rows hold the tile's scales. -/
theorem trip7 (jj : Fin 7) (harg1 : arg1 = BitVec.ofNat 32 jj.val) (hv : ∀ x, v14 x = BitVec.ofNat 32 (x 1).val)
    (k : Fin k0_t1_loop.trips) (f6 : BufTy.Contents (Elt Ideal) arg6.view.ty) (f7 : BufTy.Contents (Elt Ideal) arg7.view.ty) (f8 : BufTy.Contents (Elt Ideal) arg8.view.ty)
    (y : S1024x56.Idx) :
    arg7.view.read (Elt Ideal) (arg7.view.writes (Elt Ideal) f7 (tripL_k0_t1 (F := Ideal) 𝒱 c bd i arg3 harg3 arg4 harg4 arg5 harg5 arg6 harg6 arg7 harg7 arg8 harg8 arg9 harg9 arg1 k0_h2 v14 X_arg5 X_arg9 k f6 f7 f8).2.1) y
      = if (32 * k.val ≤ (y 0).val ∧ (y 0).val < 32 * k.val + 32) ∧ (y 1).val / 8 = jj.val then scG (tileT arg5 arg9 X_arg5 X_arg9) (y 0).val ((y 1).val % 8)
        else arg7.view.read (Elt Ideal) f7 y := by
  rw [trip_eq]
  have hy0 : (y 0).val < 1024 := (y 0).isLt
  have hy1 : (y 1).val < 56 := (y 1).isLt
  by_cases hy : 32 * k.val ≤ (y 0).val ∧ (y 0).val < 32 * k.val + 32
  · have hr : (y 0).val - 32 * k.val < 32 := by omega
    rw [View.read_writes_cons_unit_of_mem arg7.view f7 (k0_off1_inb i k k0_h2) _ [] y (ix2 (⟨(y 0).val - 32 * k.val, hr⟩ : Fin 32) (⟨(y 1).val, hy1⟩ : Fin 56))
      (k0_off1_eq k) (Fin.forall_fin_two.mpr ⟨by show (y 0).val = 32 * k.val + ((y 0).val - 32 * k.val); omega, by show (y 1).val = 0 + (y 1).val; omega⟩)]
    rw [selS_apply arg5 arg9 arg1 v14 X_arg5 X_arg9 jj harg1 hv 7 (7#32) rfl _ _ (32 * k.val) (k0_off12_eq k),
      selS_apply arg5 arg9 arg1 v14 X_arg5 X_arg9 jj harg1 hv 6 (6#32) rfl _ _ (32 * k.val) (k0_off11_eq k),
      selS_apply arg5 arg9 arg1 v14 X_arg5 X_arg9 jj harg1 hv 5 (5#32) rfl _ _ (32 * k.val) (k0_off9_eq k),
      selS_apply arg5 arg9 arg1 v14 X_arg5 X_arg9 jj harg1 hv 4 (4#32) rfl _ _ (32 * k.val) (k0_off8_eq k),
      selS_apply arg5 arg9 arg1 v14 X_arg5 X_arg9 jj harg1 hv 3 (3#32) rfl _ _ (32 * k.val) (k0_off6_eq k),
      selS_apply arg5 arg9 arg1 v14 X_arg5 X_arg9 jj harg1 hv 2 (2#32) rfl _ _ (32 * k.val) (k0_off5_eq k),
      selS_apply arg5 arg9 arg1 v14 X_arg5 X_arg9 jj harg1 hv 1 (1#32) rfl _ _ (32 * k.val) (k0_off3_eq k),
      selS_apply arg5 arg9 arg1 v14 X_arg5 X_arg9 jj harg1 hv 0 (0#32) rfl _ _ (32 * k.val) (k0_off2_eq k)]
    have e0 : 32 * k.val + ((y 0).val - 32 * k.val) = (y 0).val := by omega
    have hprev : shapeCast S32x56 (View.readAt (Elt Ideal) arg7.view (Rect.unit (s := S1024x56) (k0_off1 k) S32x56.size (k0_off1_inb i k k0_h2)).toLoadRect f7) shapeCasts_S32x56_S32x56
        (ix2 (⟨(y 0).val - 32 * k.val, hr⟩ : Fin 32) (⟨(y 1).val, hy1⟩ : Fin 56)) = arg7.view.read (Elt Ideal) f7 y := by
      pointwise []
      rw [View.readAt_apply]
      congr 1
      funext a
      apply Fin.ext
      match a with
      | ⟨0, _⟩ => show k0_off1 k 0 + 1 * ((y 0).val - 32 * k.val) = (y 0).val; rw [k0_off1_eq k]; show 32 * k.val + _ = _; omega
      | ⟨1, _⟩ => show k0_off1 k 1 + 1 * (y 1).val = (y 1).val; rw [k0_off1_eq k]; show 0 + _ = _; omega
    rw [hprev]
    dsimp only
    rw [e0]
    have hjj := jj.isLt
    by_cases hj : (y 1).val / 8 = jj.val
    · refine Eq.trans ?_ (if_pos ⟨hy, hj⟩).symm
      simp only [Fin.isValue, Fin.reduceFinMk, Fin.coe_ofNat_eq_mod, Nat.reduceMod, Nat.mod_succ]
      split_ifs <;> first | (congr 1; omega) | (exfalso; omega)
    · refine Eq.trans ?_ (if_neg (fun h => hj h.2)).symm
      simp only [Fin.isValue, Fin.reduceFinMk, Fin.coe_ofNat_eq_mod, Nat.reduceMod, Nat.mod_succ]
      split_ifs <;> first | rfl | (exfalso; omega)
  · refine Eq.trans ?_ (if_neg (fun h => hy h.1)).symm
    refine View.read_writes_apply_of_forall_not_mem arg7.view f7 y _ ?_
    simp only [List.forall_mem_cons, List.not_mem_nil, false_imp_iff, implies_true, and_true]
    rw [mem_rect _ _ _ _ _ _ _ (k0_off1_eq k) rfl]
    omega

/-- After `n` trips the three output tiles read, at an index of a row below `32 n`, the packed bytes, the scales (on the
    column tile's own lanes) and the new errors of the tile's values; elsewhere what they held before the loop. -/
theorem loop_read (jj : Fin 7) (harg1 : arg1 = BitVec.ofNat 32 jj.val) (hv : ∀ x, v14 x = BitVec.ofNat 32 (x 1).val)
    (G6 : BufTy.Contents (Elt Ideal) arg6.view.ty) (G7 : BufTy.Contents (Elt Ideal) arg7.view.ty) (G8 : BufTy.Contents (Elt Ideal) arg8.view.ty)
    (n : ℕ) (hn : n ≤ k0_t1_loop.trips) :
    (∀ y : S1024x512.Idx, arg6.view.read (Elt Ideal) (arg6.view.writes (Elt Ideal) G6 (pb_k0_t1 (F := Ideal) 𝒱 c bd i arg3 harg3 arg4 harg4 arg5 harg5 arg6 harg6 arg7 harg7 arg8 harg8 arg9 harg9 arg1 k0_h2 v14 X_arg5 X_arg9 G6 G7 G8 n).1) y
      = if (y 0).val < 32 * n then packG (tileT arg5 arg9 X_arg5 X_arg9) (y 0).val (y 1).val else arg6.view.read (Elt Ideal) G6 y)
    ∧ (∀ y : S1024x56.Idx, arg7.view.read (Elt Ideal) (arg7.view.writes (Elt Ideal) G7 (pb_k0_t1 (F := Ideal) 𝒱 c bd i arg3 harg3 arg4 harg4 arg5 harg5 arg6 harg6 arg7 harg7 arg8 harg8 arg9 harg9 arg1 k0_h2 v14 X_arg5 X_arg9 G6 G7 G8 n).2.1) y
      = if (y 0).val < 32 * n ∧ (y 1).val / 8 = jj.val then scG (tileT arg5 arg9 X_arg5 X_arg9) (y 0).val ((y 1).val % 8) else arg7.view.read (Elt Ideal) G7 y)
    ∧ (∀ y : S1024x1024.Idx, arg8.view.read (Elt Ideal) (arg8.view.writes (Elt Ideal) G8 (pb_k0_t1 (F := Ideal) 𝒱 c bd i arg3 harg3 arg4 harg4 arg5 harg5 arg6 harg6 arg7 harg7 arg8 harg8 arg9 harg9 arg1 k0_h2 v14 X_arg5 X_arg9 G6 G7 G8 n).2.2) y
      = if (y 0).val < 32 * n then errG (tileT arg5 arg9 X_arg5 X_arg9) (y 0).val (y 1).val else arg8.view.read (Elt Ideal) G8 y) := by
  induction n with
  | zero =>
    refine ⟨fun y => ?_, fun y => ?_, fun y => ?_⟩
    · exact Eq.trans rfl (if_neg (by omega)).symm
    · exact Eq.trans rfl (if_neg (by omega)).symm
    · exact Eq.trans rfl (if_neg (by omega)).symm
  | succ n ih =>
    obtain ⟨ih6, ih7, ih8⟩ := ih (by omega)
    have hs := pb_k0_t1_succ (F := Ideal) 𝒱 c bd i arg3 harg3 arg4 harg4 arg5 harg5 arg6 harg6 arg7 harg7 arg8 harg8 arg9 harg9 arg1 k0_h2 v14 X_arg5 X_arg9 G6 G7 G8 ⟨n, by omega⟩
    dsimp only at hs
    rw [hs]
    refine ⟨fun y => ?_, fun y => ?_, fun y => ?_⟩
    · rw [View.writes_append, trip6, ih6]
      dsimp only
      split_ifs <;> first | rfl | (exfalso; omega)
    · rw [View.writes_append, trip7 (jj := jj) (harg1 := harg1) (hv := hv), ih7]
      dsimp only
      split_ifs <;> first | rfl | (exfalso; omega)
    · rw [View.writes_append, trip8, ih8]
      dsimp only
      split_ifs <;> first | rfl | (exfalso; omega)

end Cert.GradInt4
-- ==== Proof.Acc.lean ====
/- The accumulation over the ten blocks of the contracted axis: partial sums of the products of two tables, the block product
   of the kernel as one more block of the sum, and the table of values the kernel quantizes. -/
module

public import proofs.«01_k».proof.Proof.Spec
public import proofs.«01_k».proof.Proof.Gen.KernelIdeal.Skeleton
@[expose] public section

set_option maxRecDepth 16384
noncomputable section

namespace Cert.GradInt4

open Idealize.ShloMosaic Cert.KernelIdeal Cert.KernelIdeal.Gen

/-- A rank-two bf16 array read at natural coordinates, zero outside its bounds. -/
def natb {n m : ℕ} (A : (⟨2, ![n, m]⟩ : Shape).Idx → Ideal .bf16) (r c : ℕ) : EReal :=
  if h : r < n ∧ c < m then A (ix2 ⟨r, h.1⟩ ⟨c, h.2⟩) else 0

theorem natb_of_lt {n m : ℕ} (A : (⟨2, ![n, m]⟩ : Shape).Idx → Ideal .bf16) (r c : ℕ) (hr : r < n) (hc : c < m) :
    natb A r c = A (ix2 ⟨r, hr⟩ ⟨c, hc⟩) := dif_pos ⟨hr, hc⟩

/-- The sum of the first `n` products of column `r` of one table with column `c` of the other. -/
def accS (X D : ℕ → ℕ → EReal) (n r c : ℕ) : EReal := ∑ k ∈ Finset.range n, X k r * D k c

/-- The table of values the kernel quantizes: the full sum of products plus the error. -/
def valT (X D : ℕ → ℕ → EReal) (E : ℕ → ℕ → Ideal .f32) (r c : ℕ) : Ideal .f32 := FloatOps.addf (F := Ideal) (accS X D 15360 r c) (E r c)

/-- The accumulator starts from zero. -/
theorem pay1_apply (y : S1024x1024.Idx) : k0_pay1 (F := Ideal) y = (0 : EReal) := by
  pointwise [k0_pay1]

/-- A point's store into the accumulator: what it held plus the product of the two blocks over their 1536 rows. -/
theorem pay2_apply (v3 : Vec Ideal S1024x1024 .f32) (v4 v5 : Vec Ideal S1536x1024 .bf16) (r c : Fin 1024) :
    k0_pay2 (F := Ideal) v3 v4 v5 (ix2 r c) = (v3 (ix2 r c) : EReal) + ∑ k : Fin 1536, (v4 (ix2 k r) : EReal) * (v5 (ix2 k c) : EReal) := by
  pointwise [k0_pay2]

/-- One more block of 1536 rows of the sum. -/
theorem acc_step (X D : ℕ → ℕ → EReal) (n R C : ℕ) (v3 : Vec Ideal S1024x1024 .f32) (v4 v5 : Vec Ideal S1536x1024 .bf16)
    (h3 : ∀ y : S1024x1024.Idx, v3 y = accS X D n (R + (y 0).val) (C + (y 1).val))
    (h4 : ∀ y : S1536x1024.Idx, v4 y = X (n + (y 0).val) (R + (y 1).val))
    (h5 : ∀ y : S1536x1024.Idx, v5 y = D (n + (y 0).val) (C + (y 1).val)) (y : S1024x1024.Idx) :
    k0_pay2 (F := Ideal) v3 v4 v5 y = accS X D (n + 1536) (R + (y 0).val) (C + (y 1).val) := by
  obtain ⟨r, c, rfl⟩ : ∃ (r : Fin 1024) (c : Fin 1024), y = ix2 r c :=
    ⟨y 0, y 1, funext fun a => by match a with | ⟨0, _⟩ => rfl | ⟨1, _⟩ => rfl⟩
  rw [pay2_apply]
  unfold accS
  rw [Finset.sum_range_add, h3]
  unfold accS
  refine congrArg₂ (· + ·) rfl ?_
  rw [Finset.sum_range]
  refine Finset.sum_congr rfl fun k _ => ?_
  rw [h4, h5]
  rfl

end Cert.GradInt4
-- ==== Proof.Runs.lean ====
/- The kernel body's runs: where it branches, in the grid points' closed forms, and what one run leaves in its buffers, in each
   of the three kinds of point (the first, a middle, the last block of the contracted axis). -/
module

public import proofs.«01_k».proof.Proof.TripLoop
public import proofs.«01_k».proof.Proof.Acc
public import proofs.«01_k».proof.Proof.Gen.KernelIdeal.Frame
public import Idealize.ShloMosaic.Lib.WordCmp
@[expose] public section

set_option maxRecDepth 16384
noncomputable section

namespace Cert.GradInt4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

local notation "𝕄" => MT nD τ sig Unit (Elt Ideal) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 10) — by arithmetic of the point. -/
theorem hcond0_0 : ∀ t : Fin cfg0.N, cond0_0 (grid0.coords t) ↔ t.val % 10 = 0 :=
  (fun t => by
    have ht : t.val < 490 := Nat.lt_of_lt_of_eq t.isLt N_0
    have e0 : (grid0.coords t 0).val = t.val / 70 % 7 := Pipeline.Grid.coords_val t 0 (by decide) rfl
    have e1 : (grid0.coords t 1).val = t.val / 10 % 7 := Pipeline.Grid.coords_val t 1 (by decide) rfl
    have e2 : (grid0.coords t 2).val = t.val / 1 % 10 := Pipeline.Grid.coords_val t 2 (by decide) rfl
    simp only [cond0_0, e0, e1, e2]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the points ≡ 9 (mod 10) — by arithmetic of the point. -/
theorem hcond0_1 : ∀ t : Fin cfg0.N, cond0_1 (grid0.coords t) ↔ t.val % 10 = 9 :=
  (fun t => by
    have ht : t.val < 490 := Nat.lt_of_lt_of_eq t.isLt N_0
    have e0 : (grid0.coords t 0).val = t.val / 70 % 7 := Pipeline.Grid.coords_val t 0 (by decide) rfl
    have e1 : (grid0.coords t 1).val = t.val / 10 % 7 := Pipeline.Grid.coords_val t 1 (by decide) rfl
    have e2 : (grid0.coords t 2).val = t.val / 1 % 10 := Pipeline.Grid.coords_val t 2 (by decide) rfl
    simp only [cond0_1, k0_cond2, e0, e1, e2]
    word_cmp
   : ∀ t : Fin grid0.N, cond0_1 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x56 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1024 .f32 := Memref.whole cc0_scratch0
/-- The scratch `arg9` the kernel carries between points, as a view: what it holds is stated through it. -/
abbrev VS0_0 : View sig .tc .vmem S1024x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A load of a whole buffer reads it. -/
theorem readAt_full {S : Shape} {e : EltTy} {k : Kind} {sp : Space} (M : Memref sig k sp S e) (off : Fin S.rank → ℕ) (h0 : ∀ a, off a = 0)
    (inb : ∀ a, off a + S.size a ≤ S.size a) (f : BufTy.Contents (Elt Ideal) M.view.ty) :
    View.readAt (Elt Ideal) M.view (Rect.unit (s := S) off S.size inb).toLoadRect f = M.view.read (Elt Ideal) f := by
  funext y
  rw [View.readAt_apply]
  congr 1
  funext a
  apply Fin.ext
  show off a + 1 * (y a).val = (y a).val
  rw [h0]; omega

/-- A buffer last stored whole reads what was stored. -/
theorem read_full {S : Shape} {e : EltTy} {k : Kind} {sp : Space} (M : Memref sig k sp S e) (off : Fin S.rank → ℕ) (h0 : ∀ a, off a = 0)
    (inb : ∀ a, off a + S.size a ≤ S.size a) (f : BufTy.Contents (Elt Ideal) M.view.ty) (w : S.Idx → Elt Ideal e) (L : List (View.Piece (Elt Ideal) S e)) :
    M.view.read (Elt Ideal) (M.view.writes (Elt Ideal) f ((⟨Rect.unit (s := S) off S.size inb, w⟩ : View.Piece (Elt Ideal) S e) :: L)) = w := by
  funext y
  exact View.read_writes_cons_unit_of_mem M.view f inb w L y y rfl (fun a => by rw [h0]; omega)

set_option maxHeartbeats 1000000 in
/-- The run at a first block: the accumulator, at anything before, ends at the product of the two blocks. -/
theorem run_first (c : Dev nD) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec Ideal S1536x1024 .bf16) (x1 : Vec Ideal S1536x1024 .bf16) (E : Set ℕ) (K : PUnit → sProp 𝕄) :
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ owns (c : Thread nD τ) arg9 fullShare (k0_pay2 (F := Ideal) (k0_pay1 (F := Ideal)) x0 x1)) -∗ K ⟨⟩))
          ⊢ wp frame (wpE (defs₀ (F := Ideal)) Variants.none c none) E (cc0_grad_int4 i arg3 harg3 arg4 harg4 arg5 harg5 arg6 harg6 arg7 harg7 arg8 harg8 arg9 harg9) K := by
  simp only [cc0_grad_int4_eq_skeleton]; unfold cc0_grad_int4_skel
  unfold owns
  iintro ⟨⟨%f0, %hf0, H0⟩, ⟨%f1, %hf1, H1⟩, ⟨%ds0, %fs0, -, HS0⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  rw [read_full _ _ (by decide)]
  unfold run_first.sl.v3 View.readCov run_first.sl.HS0_1
  rw [readAt_full _ _ (by decide), readAt_full _ _ (by decide), readAt_full _ _ (by decide), hf0, hf1, read_full _ _ (by decide)]

set_option maxHeartbeats 1000000 in
/-- The run at a middle block: the accumulator gains the product of the two blocks. -/
theorem run_middle (c : Dev nD) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec Ideal S1536x1024 .bf16) (x1 : Vec Ideal S1536x1024 .bf16) (xs : Vec Ideal S1024x1024 .f32) (E : Set ℕ) (K : PUnit → sProp 𝕄) :
        iprop(owns (c : Thread nD τ) arg3 fullShare x0 ∗ owns (c : Thread nD τ) arg4 fullShare x1 ∗ owns (c : Thread nD τ) arg9 fullShare xs
            ∗ (iprop(owns (c : Thread nD τ) arg3 fullShare x0 ∗ owns (c : Thread nD τ) arg4 fullShare x1 ∗ owns (c : Thread nD τ) arg9 fullShare (k0_pay2 (F := Ideal) xs x0 x1)) -∗ K ⟨⟩))
          ⊢ wp frame (wpE (defs₀ (F := Ideal)) Variants.none c none) E (cc0_grad_int4 i arg3 harg3 arg4 harg4 arg5 harg5 arg6 harg6 arg7 harg7 arg8 harg8 arg9 harg9) K := by
  simp only [cc0_grad_int4_eq_skeleton]; unfold cc0_grad_int4_skel
  unfold owns
  iintro ⟨⟨%f0, %hf0, H0⟩, ⟨%f1, %hf1, H1⟩, ⟨%fs0, %hfs0, HS0⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  rw [read_full _ _ (by decide)]
  rw [readAt_full _ _ (by decide), readAt_full _ _ (by decide), readAt_full _ _ (by decide), hf0, hf1, hfs0]

/-- The loop runs over 32 groups of rows. -/
theorem trips_eq : k0_t1_loop.trips = 32 := by decide

/-- The tile of values at a last block: the accumulator's new contents plus the error block. -/
def tileX (s x2 : Vec Ideal S1024x1024 .f32) (r c : ℕ) : Ideal .f32 := natv s r c + natv x2 r c

/-- The column number of a scale row's lane. -/
theorem iota_lane (x : S32x56.Idx) : iota .tc S32x56 32 [1] iota_S32x56_d1_w32 x = BitVec.ofNat 32 (x 1).val := by
  pointwise []

set_option maxHeartbeats 2000000 in
/-- The run at a last block: the accumulator gains the product of the two blocks, and the three output tiles hold the packed
    bytes, the scales (on the column tile's own lanes, the other lanes as found) and the new errors of the tile of values. -/
theorem run_last (c : Dev nD) (i : grid0.Coords) (arg3 : Memref sig .tc .vmem S1536x1024 .bf16) (harg3 : arg3.IsWhole) (arg4 : Memref sig .tc .vmem S1536x1024 .bf16) (harg4 : arg4.IsWhole) (arg5 : Memref sig .tc .vmem S1024x1024 .f32) (harg5 : arg5.IsWhole) (arg6 : Memref sig .tc .vmem S1024x512 .i8) (harg6 : arg6.IsWhole) (arg7 : Memref sig .tc .vmem S1024x56 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (jj : Fin 7) (hjj : (i 1).val = jj.val)
    (x0 : Vec Ideal S1536x1024 .bf16) (x1 : Vec Ideal S1536x1024 .bf16) (x2 : Vec Ideal S1024x1024 .f32) (xs : Vec Ideal S1024x1024 .f32)
    (d3 : Vec Ideal S1024x512 .i8) (d4 : Vec Ideal S1024x56 .f32) (d5 : Vec Ideal S1024x1024 .f32) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare d4 ∗ owns (c : Thread nD τ) arg8 fullShare d5 ∗ owns (c : Thread nD τ) arg9 fullShare xs
            ∗ (iprop(owns (c : Thread nD τ) arg3 fullShare x0 ∗ owns (c : Thread nD τ) arg4 fullShare x1 ∗ owns (c : Thread nD τ) arg5 fullShare x2
              ∗ owns (c : Thread nD τ) arg6 fullShare (fun y : S1024x512.Idx => packG (tileX (k0_pay2 (F := Ideal) xs x0 x1) x2) (y 0).val (y 1).val)
              ∗ owns (c : Thread nD τ) arg7 fullShare (fun y : S1024x56.Idx => if (y 1).val / 8 = jj.val then scG (tileX (k0_pay2 (F := Ideal) xs x0 x1) x2) (y 0).val ((y 1).val % 8) else d4 y)
              ∗ owns (c : Thread nD τ) arg8 fullShare (fun y : S1024x1024.Idx => errG (tileX (k0_pay2 (F := Ideal) xs x0 x1) x2) (y 0).val (y 1).val)
              ∗ owns (c : Thread nD τ) arg9 fullShare (k0_pay2 (F := Ideal) xs x0 x1)) -∗ K ⟨⟩))
          ⊢ wp frame (wpE (defs₀ (F := Ideal)) Variants.none c none) E (cc0_grad_int4 i arg3 harg3 arg4 harg4 arg5 harg5 arg6 harg6 arg7 harg7 arg8 harg8 arg9 harg9) K := by
  simp only [cc0_grad_int4_eq_skeleton]; unfold cc0_grad_int4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  sl_exec (disch := first | sl_exact hc0 | sl_exact hc1)
  sl_step
  have hs : ∀ g, arg9.view.read (Elt Ideal) (arg9.view.writes (Elt Ideal) g (run_last.sl.HS0_1 c arg3 arg4 arg9 f0 f1 fs0)) = k0_pay2 (F := Ideal) xs x0 x1 := fun g => by
    unfold run_last.sl.HS0_1
    rw [read_full _ _ (by decide)]
    rw [readAt_full _ _ (by decide), readAt_full _ _ (by decide), readAt_full _ _ (by decide), hf0, hf1, hfs0]
  have hT : ∀ g, tileT arg5 arg9 f2 (arg9.view.writes (Elt Ideal) g (run_last.sl.HS0_1 c arg3 arg4 arg9 f0 f1 fs0)) = tileX (k0_pay2 (F := Ideal) xs x0 x1) x2 := fun g => by
    unfold tileT tileX
    rw [hs, hf2]
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    refine funext fun y => ((loop_read (jj := jj) (harg1 := by rw [hjj]) (hv := iota_lane) (n := k0_t1_loop.trips) (hn := le_refl _) ..).1 y).trans ?_
    rw [if_pos (by rw [trips_eq]; exact (y 0).isLt), hT]
  isplitl [H4]
  · iexists _; isplitr
    swap; · iexact H4
    ipureintro
    refine funext fun y => ((loop_read (jj := jj) (harg1 := by rw [hjj]) (hv := iota_lane) (n := k0_t1_loop.trips) (hn := le_refl _) ..).2.1 y).trans ?_
    have h0 : (y 0).val < 32 * k0_t1_loop.trips := by rw [trips_eq]; exact (y 0).isLt
    simp only [h0, _root_.true_and, hT, hf4]
  isplitl [H5]
  · iexists _; isplitr
    swap; · iexact H5
    ipureintro
    refine funext fun y => ((loop_read (jj := jj) (harg1 := by rw [hjj]) (hv := iota_lane) (n := k0_t1_loop.trips) (hn := le_refl _) ..).2.2 y).trans ?_
    rw [if_pos (by rw [trips_eq]; exact (y 0).isLt), hT]
  iexists _; isplitr
  swap; · iexact HS0
  ipureintro
  exact hs _

end Cert.GradInt4
-- ==== Proof.Windows.lean ====
/- The kernel's windows in the grid points' closed forms: which block of its array each window is on at a point, and what the
   input windows' blocks hold. -/
module

public import proofs.«01_k».proof.Proof.Runs
public import Idealize.ShloMosaic.Lib.Pipeline.ValueKit
@[expose] public section

set_option maxRecDepth 16384
noncomputable section

namespace Cert.GradInt4

open Idealize.ShloMosaic Idealize.ShloMosaic.TcCoe Idealize.ShloMosaic.Tactic
open Idealize.SL Idealize.SL.RA Idealize.SL.BI
open Cert.KernelIdeal Cert.KernelIdeal.Gen

variable (m : (ℓ : Loc nD τ sig) → Buf (Elt Ideal) ℓ)

/-- The two bf16 operands and the error, as tables at natural coordinates. -/
def tabX (c : Dev nD) : ℕ → ℕ → EReal := natb (n := 15360) (m := 7168) (V m c main_arg0)
def tabD (c : Dev nD) : ℕ → ℕ → EReal := natb (n := 15360) (m := 7168) (V m c main_arg1)
def tabE (c : Dev nD) : ℕ → ℕ → Ideal .f32 := natv (n := 7168) (m := 7168) (V m c main_arg2)

/-- The table of values the kernel quantizes. -/
def tabT (c : Dev nD) : ℕ → ℕ → Ideal .f32 := valT (tabX m c) (tabD m c) (tabE m c)

theorem coord0 (t : Fin cfg0.N) : (grid0.coords t 0).val = t.val / 70 % 7 := Pipeline.Grid.coords_val t 0 (by decide) rfl
theorem coord1 (t : Fin cfg0.N) : (grid0.coords t 1).val = t.val / 10 % 7 := Pipeline.Grid.coords_val t 1 (by decide) rfl
theorem coord2 (t : Fin cfg0.N) : (grid0.coords t 2).val = t.val % 10 :=
  (Pipeline.Grid.coords_val t 2 (by decide) rfl : (grid0.coords t 2).val = t.val / 1 % 10).trans (by rw [Nat.div_one])

/-- Window 0's block at a point. -/
theorem index0 (t : Fin cfg0.N) : (cfg0.win 0).index t = ![t.val % 10, t.val / 70 % 7] := by
  show cc0_transform_0 (grid0.coords t) = _
  unfold cc0_transform_0
  dsimp only
  rw [coord2 t, coord0 t]
  simp only [BitVec.toNat_ofNat]
  refine congrArg₂ (fun a b => ![a, b]) ?_ ?_ <;> omega

/-- Window 1's block at a point. -/
theorem index1 (t : Fin cfg0.N) : (cfg0.win 1).index t = ![t.val % 10, t.val / 10 % 7] := by
  show cc0_transform_1 (grid0.coords t) = _
  unfold cc0_transform_1
  dsimp only
  rw [coord2 t, coord1 t]
  simp only [BitVec.toNat_ofNat]
  refine congrArg₂ (fun a b => ![a, b]) ?_ ?_ <;> omega

/-- Window 2's block at a point. -/
theorem index2 (t : Fin cfg0.N) : (cfg0.win 2).index t = ![t.val / 70 % 7, t.val / 10 % 7] := by
  show cc0_transform_2 (grid0.coords t) = _
  unfold cc0_transform_2
  dsimp only
  rw [coord0 t, coord1 t]
  simp only [BitVec.toNat_ofNat]
  refine congrArg₂ (fun a b => ![a, b]) ?_ ?_ <;> omega

/-- Window 3's block at a point. -/
theorem index3 (t : Fin cfg0.N) : (cfg0.win 3).index t = ![t.val / 70 % 7, t.val / 10 % 7] := by
  show cc0_transform_3 (grid0.coords t) = _
  unfold cc0_transform_3
  dsimp only
  rw [coord0 t, coord1 t]
  simp only [BitVec.toNat_ofNat]
  refine congrArg₂ (fun a b => ![a, b]) ?_ ?_ <;> omega

/-- Window 4's block at a point. -/
theorem index4 (t : Fin cfg0.N) : (cfg0.win 4).index t = ![t.val / 70 % 7, 0] := by
  show cc0_transform_4 (grid0.coords t) = _
  unfold cc0_transform_4
  dsimp only
  rw [coord0 t]
  simp only [BitVec.toNat_ofNat]
  refine congrArg₂ (fun a b => ![a, b]) ?_ ?_ <;> omega

/-- Window 5's block at a point. -/
theorem index5 (t : Fin cfg0.N) : (cfg0.win 5).index t = ![t.val / 70 % 7, t.val / 10 % 7] := by
  show cc0_transform_5 (grid0.coords t) = _
  unfold cc0_transform_5
  dsimp only
  rw [coord0 t, coord1 t]
  simp only [BitVec.toNat_ofNat]
  refine congrArg₂ (fun a b => ![a, b]) ?_ ?_ <;> omega

/-- Input window 0's block at a point, read off its array. -/
theorem iblk0 (c : Dev nD) (t : Fin cfg0.N) (y : S1536x1024.Idx) :
    iblk m c 0 t y = tabX m c (1536 * (t.val % 10) + (y 0).val) (1024 * (t.val / 70 % 7) + (y 1).val) := by
  have hy0 : (y 0).val < 1536 := (y 0).isLt
  have hy1 : (y 1).val < 1024 := (y 1).isLt
  have h0 := congrFun (index0 t) 0
  have h1 := congrFun (index0 t) 1
  dsimp only [Matrix.cons_val_zero, Matrix.cons_val_one] at h0 h1
  unfold tabX
  rw [natb_of_lt _ _ _ (by omega) (by omega)]
  blk_ext [iblk, V, h0, h1]

/-- Input window 1's block at a point, read off its array. -/
theorem iblk1 (c : Dev nD) (t : Fin cfg0.N) (y : S1536x1024.Idx) :
    iblk m c 1 t y = tabD m c (1536 * (t.val % 10) + (y 0).val) (1024 * (t.val / 10 % 7) + (y 1).val) := by
  have hy0 : (y 0).val < 1536 := (y 0).isLt
  have hy1 : (y 1).val < 1024 := (y 1).isLt
  have h0 := congrFun (index1 t) 0
  have h1 := congrFun (index1 t) 1
  dsimp only [Matrix.cons_val_zero, Matrix.cons_val_one] at h0 h1
  unfold tabD
  rw [natb_of_lt _ _ _ (by omega) (by omega)]
  blk_ext [iblk, V, h0, h1]

/-- Input window 2's block at a point, read off its array. -/
theorem iblk2 (c : Dev nD) (t : Fin cfg0.N) (y : S1024x1024.Idx) :
    iblk m c 2 t y = tabE m c (1024 * (t.val / 70 % 7) + (y 0).val) (1024 * (t.val / 10 % 7) + (y 1).val) := by
  have hy0 : (y 0).val < 1024 := (y 0).isLt
  have hy1 : (y 1).val < 1024 := (y 1).isLt
  have h0 := congrFun (index2 t) 0
  have h1 := congrFun (index2 t) 1
  dsimp only [Matrix.cons_val_zero, Matrix.cons_val_one] at h0 h1
  unfold tabE
  rw [natv_of_lt _ _ _ (by omega) (by omega)]
  blk_ext [iblk, V, h0, h1]

end Cert.GradInt4
-- ==== Proof.Shift.lean ====
/- A tile of a table has the table's quantized values, new errors, packed bytes and scales: blocks of 128 columns do not cross
   the tile's border. -/
module

public import proofs.«01_k».proof.Proof.Spec
@[expose] public section

noncomputable section

namespace Cert.GradInt4

open Idealize.ShloMosaic

variable {T U : ℕ → ℕ → Ideal .f32} {R C : ℕ}

/-- A block of 128 columns of the tile is one of the table. -/
theorem rowblk_tile (h : ∀ r c, r < 1024 → c < 1024 → T r c = U (R + r) (1024 * C + c)) {r b : ℕ} (hr : r < 1024) (hb : b < 8) :
    rowblk T r b = rowblk U (R + r) (8 * C + b) := by
  funext l
  have hl := l.isLt
  unfold rowblk
  rw [h _ _ hr (by omega)]
  congr 1
  omega

theorem scG_tile (h : ∀ r c, r < 1024 → c < 1024 → T r c = U (R + r) (1024 * C + c)) {r b : ℕ} (hr : r < 1024) (hb : b < 8) :
    scG T r b = scG U (R + r) (8 * C + b) := by
  unfold scG
  rw [rowblk_tile h hr hb]

theorem qG_tile (h : ∀ r c, r < 1024 → c < 1024 → T r c = U (R + r) (1024 * C + c)) {r c : ℕ} (hr : r < 1024) (hc : c < 1024) :
    qG T r c = qG U (R + r) (1024 * C + c) := by
  unfold qG
  rw [rowblk_tile h hr (by omega : c / 128 < 8)]
  exact congrArg₂ (fun b l => qv (rowblk U (R + r) b) l) (by omega) (Fin.ext (by show c % 128 = (1024 * C + c) % 128; omega))

theorem errG_tile (h : ∀ r c, r < 1024 → c < 1024 → T r c = U (R + r) (1024 * C + c)) {r c : ℕ} (hr : r < 1024) (hc : c < 1024) :
    errG T r c = errG U (R + r) (1024 * C + c) := by
  unfold errG
  rw [rowblk_tile h hr (by omega : c / 128 < 8)]
  exact congrArg₂ (fun b l => nerr (rowblk U (R + r) b) l) (by omega) (Fin.ext (by show c % 128 = (1024 * C + c) % 128; omega))

theorem packG_tile (h : ∀ r c, r < 1024 → c < 1024 → T r c = U (R + r) (1024 * C + c)) {r c : ℕ} (hr : r < 1024) (hc : c < 512) :
    packG T r c = packG U (R + r) (512 * C + c) := by
  unfold packG
  rw [qG_tile h hr (by omega : 2 * c < 1024), qG_tile h hr (by omega : 2 * c + 1 < 1024)]
  exact congrArg₂ nib (congrArg (qG U (R + r)) (by omega)) (congrArg (qG U (R + r)) (by omega))

end Cert.GradInt4
-- ==== Proof.Region.lean ====
/- The kernel's region over the grid: what its accumulator and its output tiles hold after each point, the body's triple at every
   point, and the launch's run with the output arrays held to it. -/
module

public import proofs.«01_k».proof.Proof.Windows
public import proofs.«01_k».proof.Proof.Shift
public import Idealize.ShloMosaic.Lib.Pipeline.DatRel
@[expose] public section

set_option maxRecDepth 16384
noncomputable section

namespace Cert.GradInt4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the buffers hold after a point -/

/-- The accumulator after point `n`: the sum over the blocks met so far of the point's column of blocks. -/
def accV (c : Dev nD) (n : ℕ) : Vec Ideal S1024x1024 .f32 :=
  fun y => accS (tabX m c) (tabD m c) (1536 * (n % 10 + 1)) (1024 * (n / 70 % 7) + (y 0).val) (1024 * (n / 10 % 7) + (y 1).val)

/-- The packed tile after a last block. -/
def Rl3 (c : Dev nD) (n : ℕ) (X : S1024x512.Idx → BitVec 8) : Prop :=
  n % 10 = 9 → ∀ y, X y = packG (tabT m c) (1024 * (n / 70 % 7) + (y 0).val) (512 * (n / 10 % 7) + (y 1).val)

/-- The scale rows after a point: the lanes of the column tiles done so far. -/
def Rl4 (c : Dev nD) (n : ℕ) (X : S1024x56.Idx → Ideal .f32) : Prop :=
  ∀ y, (y 1).val < 8 * ((n % 70 + 1) / 10) → X y = scG (tabT m c) (1024 * (n / 70 % 7) + (y 0).val) (y 1).val

/-- The new-error tile after a last block. -/
def Rl5 (c : Dev nD) (n : ℕ) (X : S1024x1024.Idx → Ideal .f32) : Prop :=
  n % 10 = 9 → ∀ y, X y = errG (tabT m c) (1024 * (n / 70 % 7) + (y 0).val) (1024 * (n / 10 % 7) + (y 1).val)

/-- What each output window's buffer is held to after a point. -/
def Rl (c : Dev nD) : (w : Fin cfg0.W) → Fin cfg0.N → ((cfg0.win w).block.Idx → Elt Ideal (cfg0.win w).elt) → Prop
  | ⟨3, _⟩, t, X => Rl3 m c t.val X
  | ⟨4, _⟩, t, X => Rl4 m c t.val X
  | ⟨5, _⟩, t, X => Rl5 m c t.val X
  | _, _, _ => True

/-! ## The steps of the accumulator and of the outputs -/

/-- A first block: the accumulator from zero. -/
theorem acc_first (c : Dev nD) (t : Fin cfg0.N) (h0 : t.val % 10 = 0) :
    k0_pay2 (F := Ideal) (k0_pay1 (F := Ideal)) (iblk m c 0 t) (iblk m c 1 t) = accV m c t.val := by
  funext y
  have h := acc_step (tabX m c) (tabD m c) (1536 * (t.val % 10)) (1024 * (t.val / 70 % 7)) (1024 * (t.val / 10 % 7)) (k0_pay1 (F := Ideal))
    (iblk m c 0 t) (iblk m c 1 t) (fun y => by rw [pay1_apply, h0]; exact (Finset.sum_range_zero _).symm) (fun y => iblk0 m c t y) (fun y => iblk1 m c t y) y
  rw [h]
  unfold accV
  rw [Nat.mul_add]

/-- Another block: the accumulator from what the point before left. -/
theorem acc_next (c : Dev nD) (t : Fin cfg0.N) (h0 : ¬t.val % 10 = 0) :
    k0_pay2 (F := Ideal) (accV m c (t.val - 1)) (iblk m c 0 t) (iblk m c 1 t) = accV m c t.val := by
  funext y
  have h := acc_step (tabX m c) (tabD m c) (1536 * (t.val % 10)) (1024 * (t.val / 70 % 7)) (1024 * (t.val / 10 % 7)) (accV m c (t.val - 1))
    (iblk m c 0 t) (iblk m c 1 t) (fun y => by
      unfold accV
      rw [show (t.val - 1) % 10 + 1 = t.val % 10 by omega, show (t.val - 1) / 70 = t.val / 70 by omega, show (t.val - 1) / 10 = t.val / 10 by omega])
    (fun y => iblk0 m c t y) (fun y => iblk1 m c t y) y
  rw [h]
  unfold accV
  rw [Nat.mul_add]

/-- At a last block the tile of values is the table's. -/
theorem tile_last (c : Dev nD) (t : Fin cfg0.N) (h9 : t.val % 10 = 9) (r q : ℕ) (hr : r < 1024) (hq : q < 1024) :
    tileX (accV m c t.val) (iblk m c 2 t) r q = tabT m c (1024 * (t.val / 70 % 7) + r) (1024 * (t.val / 10 % 7) + q) := by
  unfold tileX
  rw [natv_of_lt _ _ _ hr hq, natv_of_lt _ _ _ hr hq, iblk2]
  unfold accV
  rw [h9]
  rfl

theorem rl3_last (c : Dev nD) (t : Fin cfg0.N) (h9 : t.val % 10 = 9) :
    Rl3 m c t.val (fun y => packG (tileX (accV m c t.val) (iblk m c 2 t)) (y 0).val (y 1).val) :=
  fun _ y => packG_tile (tile_last m c t h9) (y 0).isLt (y 1).isLt

theorem rl5_last (c : Dev nD) (t : Fin cfg0.N) (h9 : t.val % 10 = 9) :
    Rl5 m c t.val (fun y => errG (tileX (accV m c t.val) (iblk m c 2 t)) (y 0).val (y 1).val) :=
  fun _ y => errG_tile (tile_last m c t h9) (y 0).isLt (y 1).isLt

/-- What the scale rows hold before a point: the lanes of the column tiles done before it. -/
def Pre4 (c : Dev nD) (n : ℕ) (X : S1024x56.Idx → Ideal .f32) : Prop :=
  ∀ y, (y 1).val < 8 * (n % 70 / 10) → X y = scG (tabT m c) (1024 * (n / 70 % 7) + (y 0).val) (y 1).val

theorem rl4_last (c : Dev nD) (t : Fin cfg0.N) (h9 : t.val % 10 = 9) (jj : Fin 7) (hj : t.val / 10 % 7 = jj.val) (d : S1024x56.Idx → Ideal .f32) (hd : Pre4 m c t.val d) :
    Rl4 m c t.val (fun y => if (y 1).val / 8 = jj.val then scG (tileX (accV m c t.val) (iblk m c 2 t)) (y 0).val ((y 1).val % 8) else d y) := by
  intro y hy
  dsimp only
  split_ifs with h
  · rw [scG_tile (tile_last m c t h9) (y 0).isLt (by omega : (y 1).val % 8 < 8)]
    congr 1
    omega
  · exact hd y (by omega)

theorem rl4_idle (c : Dev nD) (n : ℕ) (h9 : ¬n % 10 = 9) (d : S1024x56.Idx → Ideal .f32) (hd : Pre4 m c n d) : Rl4 m c n d :=
  fun y hy => hd y (by omega)

/-! ## The proof data -/

/-- The region's invariant before point `n`: before the first the accumulator holds anything, afterwards what the point before
    left in it. -/
def PhiS (c : Dev nD) (n : ℕ) : sProp 𝕄 :=
  match n with
  | 0 => Pipeline.ΦA spec0 c
  | n + 1 => iprop(owns (c : Thread nD τ) scM0_0 fullShare (accV m c n) ∗ (∃ r, prngReg c r))

theorem PhiS_pos (c : Dev nD) (n : ℕ) (hz : n ≠ 0) :
    PhiS m c n = iprop(owns (c : Thread nD τ) scM0_0 fullShare (accV m c (n - 1)) ∗ (∃ r, prngReg c r)) := by
  cases n with
  | zero => exact absurd rfl hz
  | succ n => rfl

/-- The output windows, held to `Rl`. -/
def marks : Fin 6 → Bool := fun w => w.val == 3 || w.val == 4 || w.val == 5

/-- The pipeline's proof data: the arrays as the region finds them, each input's buffer at its block, the outputs held to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val
  q _ := fullShare
  owed _ := 0

/-- The relational data. -/
abbrev rdat (c : Dev nD) : RDat τ (Elt Ideal) Unit ℕ (UR sig nD τ) ℕ cfg0 c := (dats m 0 c).toRRel marks (Rl m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body finds in the scale rows: the lanes done before, carried over from the point before. -/
theorem finds4 (c : Dev nD) (t : Fin cfg0.N) (Y : S1024x56.Idx → Ideal .f32) (h : (rdat m c).Finds 4 t Y) : Pre4 m c t.val Y := by
  by_cases hz : t.val % 70 = 0
  · intro y hy; rw [hz] at hy; exact absurd hy (by omega)
  · have hf : (cfg0.win 4).fetch t = false := (cfg0.win 4).fetch_out rfl t
    rcases ((rdat m c).finds_of_pos hf (by omega) Y).mp h with hfl | hL
    · have := (flush0_4 _).mp hfl
      dsimp only at this
      exfalso; omega
    · have hR : Rl4 m c (t.val - 1) Y := (dats m 0 c).toRRel_leaves (fgt := marks) (Rl := Rl m c) (w := 4) rfl hL
      intro y hy
      rw [hR y (by omega), show (t.val - 1) / 70 = t.val / 70 by omega]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, ⌜(rdat m c).Finds 3 t d⌝ ∗ owns (c : Thread nD τ) (ms0_3 t) fullShare d)
    ∗ (∃ d, ⌜(rdat m c).Finds 4 t d⌝ ∗ owns (c : Thread nD τ) (ms0_4 t) fullShare d)
    ∗ (∃ d, ⌜(rdat m c).Finds 5 t d⌝ ∗ owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, ⌜Rl m c 3 t d⌝ ∗ owns (c : Thread nD τ) (ms0_3 t) fullShare d)
    ∗ (∃ d, ⌜Rl m c 4 t d⌝ ∗ owns (c : Thread nD τ) (ms0_4 t) fullShare d)
    ∗ (∃ d, ⌜Rl m c 5 t d⌝ ∗ owns (c : Thread nD τ) (ms0_5 t) fullShare d))

set_option maxHeartbeats 4800000 in
/-- The body's triple at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, after_0, after_1, after_2]
  rw [show (dats m 0 c).owesAt () t.succ = (dats m 0 c).owesAt () t.castSucc from rfl]
  rw [show (dats m 0 c).Φ t.succ = iprop(owns (c : Thread nD τ) scM0_0 fullShare (accV m c t.val) ∗ (∃ r, prngReg c r)) from rfl]
  rw [show (dats m 0 c).Φ t.castSucc = PhiS m c t.val from rfl]
  have hN : t.val < 490 := lt_of_lt_of_eq t.isLt (show cfg0.N = 490 from N_0)
  by_cases h0 : t.val % 10 = 0
  · have h1 : ¬t.val % 10 = 9 := by omega
    have hany : PhiS m c t.val ⊢ iprop((∃ d, owns (c : Thread nD τ) scM0_0 fullShare d) ∗ (∃ r, prngReg c r)) := by
      by_cases hz : t.val = 0
      · rw [hz, ← PhiA0_eq]; exact .rfl
      · rw [PhiS_pos m c _ hz]
        iintro ⟨HS, Hg⟩
        isplitl [HS]; · iexists _; iexact HS
        iexact Hg
    refine (sep_mono hany .rfl).trans ?_
    iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
    iapply (run_first c (grid0.coords t) _ _ _ _ _ _ _ _ _ _ _ _ _ _ ((hcond0_0 t).mpr h0) (fun h => h1 ((hcond0_1 t).mp h)) (iblk m c 0 t) (iblk m c 1 t) Set.univ _)
    isplitl [H0]; · iexact H0
    isplitl [H1]; · iexact H1
    isplitl [HS0]; · iexact HS0
    rw [acc_first m c t h0]
    iintro ⟨H0, H1, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]
    · iexists d3; isplitr; · ipureintro; exact fun h => absurd h h1
      iexact H3
    isplitl [H4]
    · iexists d4; isplitr; · ipureintro; exact rl4_idle m c t.val h1 d4 (finds4 m c t d4 hd4)
      iexact H4
    iexists d5; isplitr; · ipureintro; exact fun h => absurd h h1
    iexact H5
  · have hz : t.val ≠ 0 := fun h => h0 (by rw [h])
    rw [PhiS_pos m c _ hz]
    by_cases h1 : t.val % 10 = 9
    · iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_last c (grid0.coords t) _ _ _ _ _ _ _ _ _ _ _ _ _ _ (fun h => h0 ((hcond0_0 t).mp h)) ((hcond0_1 t).mpr h1)
        ⟨t.val / 10 % 7, Nat.mod_lt _ (by decide)⟩ (coord1 t) (iblk m c 0 t) (iblk m c 1 t) (iblk m c 2 t) (accV m c (t.val - 1)) d3 d4 d5 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      rw [acc_next m c t h0]
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists _; isplitr; swap; · iexact H3
        ipureintro; exact rl3_last m c t h1
      isplitl [H4]
      · iexists _; isplitr; swap; · iexact H4
        ipureintro; exact rl4_last m c t h1 _ rfl d4 (finds4 m c t d4 hd4)
      iexists _; isplitr; swap; · iexact H5
      ipureintro; exact rl5_last m c t h1
    · iintro ⟨⟨HS0, Hg⟩, Ho, ⟨%d0, H0⟩, ⟨%d1, H1⟩, ⟨%d2, H2⟩, ⟨%d3, %hd3, H3⟩, ⟨%d4, %hd4, H4⟩, ⟨%d5, %hd5, H5⟩⟩
      iapply (run_middle c (grid0.coords t) _ _ _ _ _ _ _ _ _ _ _ _ _ _ (fun h => h0 ((hcond0_0 t).mp h)) (fun h => h1 ((hcond0_1 t).mp h)) (iblk m c 0 t) (iblk m c 1 t) (accV m c (t.val - 1)) Set.univ _)
      isplitl [H0]; · iexact H0
      isplitl [H1]; · iexact H1
      isplitl [HS0]; · iexact HS0
      rw [acc_next m c t h0]
      iintro ⟨H0, H1, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]
      · iexists d3; isplitr; · ipureintro; exact fun h => absurd h h1
        iexact H3
      isplitl [H4]
      · iexists d4; isplitr; · ipureintro; exact rl4_idle m c t.val h1 d4 (finds4 m c t d4 hd4)
        iexact H4
      iexists d5; isplitr; · ipureintro; exact fun h => absurd h h1
      iexact H5

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := Ideal)) Variants.none () Set.univ marks (Rl m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 490 := N_0; omega), PhiA0_eq]
  iintro ⟨HS0, Hg⟩
  isplitl [HS0]
  · iexists _; iexact HS0
  iexact Hg

end Cert.GradInt4
-- ==== Proof.Run.lean ====
/- The launch's run: every result array of the kernel, read at its indices. -/
module

public import proofs.«01_k».proof.Proof.Region
public import Idealize.ShloMosaic.Lib.Pipeline.ArrRel
@[expose] public section

set_option maxRecDepth 16384
noncomputable section

namespace Cert.GradInt4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationRel cellOf)

/-- The frame run at exact proof data whose windows `fgt` are held to the relation `R` only. The data are a variable here, so that
    checking the invariant's ends does not unfold it. -/
theorem run_of_rel {nD : Nat} {τ : Topo} {sig : RefSig} {Val : EltTy → Type} [∀ e, Nonempty (Val e)] {Λ₀ : Idealize.SL.Sem.Labels}
    {P : Type} [Fintype P] [DecidableEq P] (cfgs : P → Cfg sig Λ₀) (dats : (p : P) → (c : Dev nD) → Dat τ Val Unit ℕ (UR sig nD τ) ℕ (cfgs p) c) (p : P)
    (kit : Pipeline.LaunchFacts (nD := nD) (τ := τ) cfgs p) (defs₀ : Defs nD τ sig Val Λ₀) (𝒱₀ : Variants)
    (fgt : Fin (cfgs p).W → Bool) (R : Dev nD → (w : Fin (cfgs p).W) → Fin (cfgs p).N → (((cfgs p).win w).block.Idx → Val ((cfgs p).win w).elt) → Prop)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationRel (dats p c) defs₀ 𝒱₀ () Set.univ fgt (R c))
    (hshare : ∀ c w, (dats p c).share w = fullShare) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hA : ∀ c w, (dats p c).A w = V c (Pipeline.arrRef (cfgs p).spec w))
    (hin : ∀ c, Pipeline.ΦA (cfgs p).spec c ⊢ (dats p c).Φ 0) (hout : ∀ c, (dats p c).Φ (Fin.last (cfgs p).N) ⊢ Pipeline.ΦA (cfgs p).spec c) :
    θ_run (Pipeline.defs (fun q => Cfg.toPCfg (Val := Val) (cfgs q)) defs₀) (onTc main) (s₀ m g)
      (fun r => RDat.FramePost (cfgs p) (fun c => (dats p c).toRRel fgt (R c)) V r ∧ r.2.sem = fun _ => 0) :=
  RDat.θ_run_frame_track cfgs p kit defs₀ 𝒱₀ (fun c => (dats p c).toRRel fgt (R c)) m g main (fun c => (hbody c).toRRel)
    hshare howed V hmain hA hin hout _ (fun _ h => h)

open Cert.KernelIdeal Cert.KernelIdeal.Gen

variable (m : (ℓ : Loc nD τ sig) → Buf (Elt Ideal) ℓ) (ρ : Dev nD → PrngReg)

set_option backward.isDefEq.respectTransparency.types false in
/-- The launch: the arrays end as the relational data say, and every semaphore counter at zero. -/
theorem run_main : θ_run defs (onTc (τ := τ) (main (F := Ideal))) (s₀ m ρ)
    (fun r => (RDat.FramePost (cfgs 0) (fun c => (dats m 0 c).toRRel marks (Rl m c)) (V m)) r ∧ r.2.sem = fun _ => 0) :=
  run_of_rel cfgs (dats m) (0 : Fin 1) launch0 (defs₀ (F := Ideal)) Variants.none marks (Rl m) m ρ main
    (hbody := body_obligation m) (hshare := fun c => (dats m 0 c).share_full fun _ => rfl)
    (howed := fun _ _ => rfl) (V := V m) (hmain := hmain m Variants.none) (hA := A_eq m) (hin := hin m) (hout := hout m)

/-- The packed codes the launch leaves. -/
def out0 (c : Dev nD) : Buf (Elt Ideal) ((c.tc : Thread nD τ).loc main_v0_0) :=
  fun (y : S7168x3584.Idx) => packG (tabT m c) (y 0).val (y 1).val

/-- The scales the launch leaves. -/
def out1 (c : Dev nD) : Buf (Elt Ideal) ((c.tc : Thread nD τ).loc main_v0_1) :=
  fun (y : S7168x56.Idx) => scG (tabT m c) (y 0).val (y 1).val

/-- The new error the launch leaves. -/
def out2 (c : Dev nD) : Buf (Elt Ideal) ((c.tc : Thread nD τ).loc main_v0_2) :=
  fun (y : S7168x7168.Idx) => errG (tabT m c) (y 0).val (y 1).val

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(RDat.FramePost.arr_in h.1 c 0 rfl).trans ((A_eq m c 0).trans (V_main_arg0 m c)),
      (RDat.FramePost.arr_in h.1 c 1 rfl).trans ((A_eq m c 1).trans (V_main_arg1 m c)),
      (RDat.FramePost.arr_in h.1 c 2 rfl).trans ((A_eq m c 2).trans (V_main_arg2 m c))⟩) (run_main m ρ)

/-- The arguments end unchanged and every semaphore counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

section Arrays

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The packed codes' array. -/
theorem arr3 : ((rdat m c).withAfter after).arrAt 3 cfg0.N = out0 m c := by
  refine ((rdat m c).withAfter after).arrAt_eq_of_covers 3 (out0 m c) (by decide +kernel) fun t hf y => ?_
  have h9 : t.val % 10 = 9 := (flush0_3 t).mp hf
  have hR : Rl3 m c t.val (after 3 t) := (dats m 0 c).toRRel_leaves (fgt := marks) (Rl := Rl m c) (w := 3) rfl (hL 3 t hf)
  blk_simp
  refine (hR h9 y).trans ?_
  unfold out0
  dsimp only
  blk_simp
  have e0 : win0_3.index t 0 = t.val / 70 % 7 := congrFun (index3 t) 0
  have e1 : win0_3.index t 1 = t.val / 10 % 7 := congrFun (index3 t) 1
  rw [e0, e1, Nat.mul_comm 1024, Nat.mul_comm 512]

/-- The scales' array. -/
theorem arr4 : ((rdat m c).withAfter after).arrAt 4 cfg0.N = out1 m c := by
  refine ((rdat m c).withAfter after).arrAt_eq_of_covers 4 (out1 m c) (by decide +kernel) fun t hf y => ?_
  have h9 : t.val % 70 = 69 := (flush0_4 t).mp hf
  have hR : Rl4 m c t.val (after 4 t) := (dats m 0 c).toRRel_leaves (fgt := marks) (Rl := Rl m c) (w := 4) rfl (hL 4 t hf)
  blk_simp
  refine (hR y ?_).trans ?_
  · have : (y 1).val < 56 := (y 1).isLt
    omega
  unfold out1
  dsimp only
  blk_simp
  have e0 : win0_4.index t 0 = t.val / 70 % 7 := congrFun (index4 t) 0
  have e1 : win0_4.index t 1 = 0 := congrFun (index4 t) 1
  rw [e0, e1, Nat.mul_comm 1024, Nat.zero_mul, Nat.zero_add]

/-- The new error's array. -/
theorem arr5 : ((rdat m c).withAfter after).arrAt 5 cfg0.N = out2 m c := by
  refine ((rdat m c).withAfter after).arrAt_eq_of_covers 5 (out2 m c) (by decide +kernel) fun t hf y => ?_
  have h9 : t.val % 10 = 9 := (flush0_5 t).mp hf
  have hR : Rl5 m c t.val (after 5 t) := (dats m 0 c).toRRel_leaves (fgt := marks) (Rl := Rl m c) (w := 5) rfl (hL 5 t hf)
  blk_simp
  refine (hR h9 y).trans ?_
  unfold out2
  dsimp only
  blk_simp
  have e0 : win0_5.index t 0 = t.val / 70 % 7 := congrFun (index5 t) 0
  have e1 : win0_5.index t 1 = t.val / 10 % 7 := congrFun (index5 t) 1
  rw [e0, e1, Nat.mul_comm 1024, Nat.mul_comm 1024]

end Arrays

/-- The launch's results: each result array at its values. -/
theorem results : θ_run defs (onTc (τ := τ) (main (F := Ideal))) ⟨m, fun _ => 0, ρ⟩ (fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_v0_2) = out2 m c) :=
  (θ_run defs _ _).mono (fun r h c => by
    obtain ⟨after, hL, hG⟩ := RDat.FramePost.exists_exact h.1 c
    exact ⟨(hG 3).trans (arr3 m c after hL), (hG 4).trans (arr4 m c after hL), (hG 5).trans (arr5 m c after hL)⟩) (run_main m ρ)

/-- The launch's results with the arguments unchanged. -/
theorem run_values : θ_run defs (onTc (τ := τ) (main (F := Ideal))) ⟨m, fun _ => 0, ρ⟩ (fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_v0_2) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1, (h.1 c).2.1, (h.1 c).2.2, h.2 c⟩) (θ_run_and (results m ρ) (unchanged m ρ))

end Cert.GradInt4
-- ==== Proof.Clip.lean ====
/- The round trip of the clipped values: a value clipped to [-7, 7] and made a word is one of fifteen words, and the low
   or high half of the packed byte, read as a number and sixteen taken off it from eight upward, is that word's value. -/
module

public import proofs.«01_k».proof.Proof.Spec
public import Idealize.ShloMosaic.PureOps.Ideal.Laws
@[expose] public section

noncomputable section

namespace Cert.GradInt4

open Idealize.ShloMosaic

/-- Clipping any extended real to [-7, 7] and truncating it gives the word of an integer of [-7, 7]. -/
theorem clip_word (x : EReal) : ∃ z : ℤ, z ∈ Finset.Icc (-7) 7 ∧
    Ideal.fptosi 32 (min ((7 : ℝ) : EReal) (max ((-7 : ℝ) : EReal) x)) = BitVec.ofInt 32 z := by
  have h1 : ((-7 : ℝ) : EReal) ≤ min ((7 : ℝ) : EReal) (max ((-7 : ℝ) : EReal) x) :=
    le_min (EReal.coe_le_coe_iff.2 (by norm_num)) (le_max_left _ _)
  have h2 : min ((7 : ℝ) : EReal) (max ((-7 : ℝ) : EReal) x) ≤ ((7 : ℝ) : EReal) := min_le_left _ _
  generalize min ((7 : ℝ) : EReal) (max ((-7 : ℝ) : EReal) x) = y at h1 h2
  induction y using EReal.rec with
  | bot => exact absurd h1 (by simp)
  | top => exact absurd h2 (by simp)
  | coe r =>
    have a1 : (-7 : ℝ) ≤ r := EReal.coe_le_coe_iff.1 h1
    have a2 : r ≤ (7 : ℝ) := EReal.coe_le_coe_iff.1 h2
    have b : -7 ≤ (if 0 ≤ r then ⌊r⌋ else ⌈r⌉) ∧ (if 0 ≤ r then ⌊r⌋ else ⌈r⌉) ≤ 7 := by
      split
      · exact ⟨Int.le_floor.2 (by exact_mod_cast a1), Int.floor_le_iff.2 (by push_cast; linarith)⟩
      · exact ⟨Int.le_ceil_iff.2 (by push_cast; linarith), Int.ceil_le.2 (by exact_mod_cast a2)⟩
    refine ⟨_, Finset.mem_Icc.2 b, ?_⟩
    unfold Ideal.fptosi
    rw [Ideal.toIntClamped_coe]
    refine congrArg (BitVec.ofInt 32) ?_
    generalize (if 0 ≤ r then ⌊r⌋ else ⌈r⌉) = z at b
    norm_num
    omega

/-- Every quantized value is the word of an integer of [-7, 7]. -/
theorem qv_word (f : Fin 128 → Ideal .f32) (l : Fin 128) : ∃ z : ℤ, z ∈ Finset.Icc (-7) 7 ∧ qv f l = BitVec.ofInt 32 z := by
  obtain ⟨z, hz, e⟩ := clip_word (FloatOps.roundeven (F := Ideal) (FloatOps.divf (F := Ideal) (f l) (qsc f)))
  refine ⟨z, hz, Eq.trans ?_ e⟩
  unfold qv
  have h7 : ((7#32).toInt : ℝ) = 7 := by rw [show (7#32).toInt = 7 by decide]; norm_num
  have hm : ((4294967289#32).toInt : ℝ) = -7 := by rw [show (4294967289#32).toInt = -7 by decide]; norm_num
  rw [← hm, ← h7]
  rfl

/-- The low half of the packed byte is the low four bits of the first word. -/
theorem nib_lo : ∀ z ∈ Finset.Icc (-7 : ℤ) 7, ∀ w ∈ Finset.Icc (-7 : ℤ) 7,
    (nib (BitVec.ofInt 32 z) (BitVec.ofInt 32 w)).setWidth 32 &&& 15#32 = BitVec.ofInt 32 z &&& 15#32 := by decide +kernel

/-- The high half of the packed byte is the low four bits of the second word. -/
theorem nib_hi : ∀ z ∈ Finset.Icc (-7 : ℤ) 7, ∀ w ∈ Finset.Icc (-7 : ℤ) 7,
    IntOp.shrsi .host ((nib (BitVec.ofInt 32 z) (BitVec.ofInt 32 w)).setWidth 32) 4#32 = BitVec.ofInt 32 w &&& 15#32 := by
  have h : ∀ z ∈ Finset.Icc (-7 : ℤ) 7, ∀ w ∈ Finset.Icc (-7 : ℤ) 7,
      ((nib (BitVec.ofInt 32 z) (BitVec.ofInt 32 w)).setWidth 32).sshiftRight' 4#32 = BitVec.ofInt 32 w &&& 15#32 := by decide +kernel
  intro z hz w hw
  exact (if_pos (by decide)).trans (h z hz w hw)

/-- The low four bits of a word of [-7, 7], as an integer. -/
theorem low4 : ∀ z ∈ Finset.Icc (-7 : ℤ) 7, (BitVec.ofInt 32 z &&& 15#32).toInt = if z < 0 then z + 16 else z := by decide +kernel

/-- A word of [-7, 7], as an integer. -/
theorem word_toInt : ∀ z ∈ Finset.Icc (-7 : ℤ) 7, (BitVec.ofInt 32 z).toInt = z := by decide +kernel

/-- The f32 pattern of eight. -/
theorem ofBits_eight : Ideal.ofBits .f32 0x41000000#32 = ((8 : ℝ) : EReal) := by
  simp [Ideal.ofBits, Ideal.ieee, -EReal.coe_mul]; norm_num

/-- The f32 pattern of sixteen. -/
theorem ofBits_sixteen : Ideal.ofBits .f32 0x41800000#32 = ((16 : ℝ) : EReal) := by
  simp [Ideal.ofBits, Ideal.ieee, -EReal.coe_mul]; norm_num

/-- How the reference reads a half byte back: its value, less sixteen from eight upward. -/
def unnib (q : BitVec 32) : Ideal .f32 :=
  Scalar.select (FloatOps.cmpf (F := Ideal) (φ := .f32) .oge (FloatOps.sitofp (F := Ideal) .f32 q) (FloatOps.ofBits .f32 0x41000000#32))
    (FloatOps.subf (F := Ideal) (FloatOps.sitofp (F := Ideal) .f32 q) (FloatOps.ofBits (F := Ideal) .f32 0x41800000#32))
    (FloatOps.sitofp (F := Ideal) .f32 q)

/-- Read back, the low four bits of a word of [-7, 7] are its value. -/
theorem unnib_low4 (z : ℤ) (hz : z ∈ Finset.Icc (-7 : ℤ) 7) :
    unnib (BitVec.ofInt 32 z &&& 15#32) = FloatOps.sitofp (F := Ideal) .f32 (BitVec.ofInt 32 z) := by
  show Scalar.select (BitVec.ofBool (decide (Ideal.ofBits .f32 0x41000000#32 ≤ (((BitVec.ofInt 32 z &&& 15#32).toInt : ℝ) : EReal))))
      ((((BitVec.ofInt 32 z &&& 15#32).toInt : ℝ) : EReal) - Ideal.ofBits .f32 0x41800000#32)
      (((BitVec.ofInt 32 z &&& 15#32).toInt : ℝ) : EReal) = (((BitVec.ofInt 32 z).toInt : ℝ) : EReal)
  rw [low4 z hz, word_toInt z hz, ofBits_eight, ofBits_sixteen]
  obtain ⟨h1, h2⟩ := Finset.mem_Icc.1 hz
  by_cases h : z < 0
  · rw [if_pos h, decide_eq_true (EReal.coe_le_coe_iff.2 (by push_cast; have : (-7 : ℝ) ≤ z := (by exact_mod_cast h1); linarith))]
    show ((((z + 16 : ℤ)) : ℝ) : EReal) - ((16 : ℝ) : EReal) = _
    rw [← EReal.coe_sub]
    exact congrArg _ (by push_cast; ring)
  · rw [if_neg h, decide_eq_false (fun hh => absurd (EReal.coe_le_coe_iff.1 hh) (by have : (z : ℝ) ≤ 7 := (by exact_mod_cast h2); linarith))]
    rfl

end Cert.GradInt4
-- ==== Proof.RefRead.lean ====
/- The reference's three results, read at an index: the packed bytes, the scales and the new error of the table of values
   `valT` of its arguments. -/
module

public import proofs.«01_k».proof.Proof.Clip
public import proofs.«01_k».proof.Proof.Acc
public import proofs.«01_k».proof.Proof.Gen.ReferenceIdeal.Read
public import Idealize.ShloMosaic.Lib.Pointwise
public import Idealize.ShloMosaic.Lib.Tactic.CleanTypes
@[expose] public section

set_option maxRecDepth 16384
noncomputable section

namespace Cert.GradInt4

open Idealize.ShloMosaic Cert.ReferenceIdeal Cert.ReferenceIdeal.Gen Cert.ReferenceIdeal.Read

variable (x0 x1 : (⟨S15360x7168, .bf16⟩ : BufTy).Contents (Elt Ideal)) (x2 : (⟨S7168x7168, .f32⟩ : BufTy).Contents (Elt Ideal))

/-- The table of values the reference quantizes. -/
def refT : ℕ → ℕ → Ideal .f32 := valT (natb (n := 15360) (m := 7168) x0) (natb (n := 15360) (m := 7168) x1) (natv (n := 7168) (m := 7168) x2)

/-- Two rank-two indices with the same coordinates are equal. -/
theorem idx2_ext {n m : ℕ} (i j : (⟨2, ![n, m]⟩ : Shape).Idx) (h0 : (i 0).val = (j 0).val) (h1 : (i 1).val = (j 1).val) : i = j :=
  funext fun a => Fin.ext (match a with | ⟨0, _⟩ => h0 | ⟨1, _⟩ => h1)

/-- The sum of products plus the error. -/
theorem v1_at (i : S7168x7168.Idx) : val_main_v1 (F := Ideal) x0 x1 x2 i = refT x0 x1 x2 (i 0).val (i 1).val := by
  rw [val_main_v1_apply, val_main_v0_apply]
  unfold refT valT
  refine congrArg₂ (FloatOps.addf (F := Ideal) (φ := .f32)) ?_ ?_
  · unfold accS
    rw [Finset.sum_range]
    refine Finset.sum_congr rfl fun k _ => ?_
    exact congrArg₂ (· * · : EReal → EReal → EReal)
      ((congrArg x0 (idx2_ext (lidx_main_v0 i k) (ix2 ⟨k.val, k.isLt⟩ ⟨(i 0).val, (i 0).isLt⟩) rfl rfl)).trans (natb_of_lt (n := 15360) (m := 7168) x0 k.val (i 0).val k.isLt (i 0).isLt).symm)
      ((congrArg x1 (idx2_ext (ridx_main_v0 i k) (ix2 ⟨k.val, k.isLt⟩ ⟨(i 1).val, (i 1).isLt⟩) rfl rfl)).trans (natb_of_lt (n := 15360) (m := 7168) x1 k.val (i 1).val k.isLt (i 1).isLt).symm)
  · exact (congrArg x2 (idx2_ext i (ix2 ⟨(i 0).val, (i 0).isLt⟩ ⟨(i 1).val, (i 1).isLt⟩) rfl rfl)).trans (natv_of_lt (n := 7168) (m := 7168) x2 (i 0).val (i 1).val (i 0).isLt (i 1).isLt).symm

/-- The values in blocks of 128. -/
theorem v2_at (i : S7168x56x128.Idx) : val_main_v2 (F := Ideal) x0 x1 x2 i = rowblk (refT x0 x1 x2) (i 0).val (i 1).val (i 2) := by
  have h0 : (i 0).val < 7168 := (i 0).isLt
  have h1 : (i 1).val < 56 := (i 1).isLt
  have h2 : (i 2).val < 128 := (i 2).isLt
  rw [val_main_v2_apply, v1_at]
  unfold rowblk
  refine congrArg₂ (refT x0 x1 x2) ?_ ?_
  · show (((i 0).val * 56 + (i 1).val) * 128 + (i 2).val) / 7168 = (i 0).val
    omega
  · show (((i 0).val * 56 + (i 1).val) * 128 + (i 2).val) % 7168 = 128 * (i 1).val + (i 2).val
    omega

/-- A maximum over the last axis from -∞. -/
theorem max_at (x : FVec Ideal S7168x56x128 .f32) (r : Fin 7168) (b : Fin 56) :
    Host.reduce (α := Ideal .f32) FloatOps.maximumf x (constant (F := Ideal) S_ .f32 0xFF800000#32) reducesTo_S7168x56x128_S7168x56_d2 h_S_ (ix2 r b)
      = Finset.univ.fold max (Ideal.ofBits .f32 0xFF800000#32) fun k : Fin 128 => x (ix3 r b k) := by
  pointwise

/-- The greatest absolute value of each block. -/
theorem v4_at (r : Fin 7168) (b : Fin 56) : val_main_v4 (F := Ideal) x0 x1 x2 (ix2 r b) = amax (rowblk (refT x0 x1 x2) r.val b.val) := by
  unfold val_main_v4 val_main_cst
  refine (max_at _ r b).trans ?_
  unfold amax
  refine congrArg (Finset.univ.fold max (Ideal.ofBits .f32 0xFF800000#32)) (funext fun k => ?_)
  rw [val_main_v3_apply, v2_at]
  rfl

/-- The scale of each block. -/
theorem v9_at (r : Fin 7168) (b : Fin 56) : val_main_v9 (F := Ideal) x0 x1 x2 (ix2 r b) = scG (refT x0 x1 x2) r.val b.val := by
  rw [val_main_v9_apply, val_main_v6_apply, val_main_v8_apply, v4_at, val_main_v5_apply, val_main_v7_apply, val_main_call0_v0_apply]
  rfl

/-- The same, at an index. -/
theorem v9_idx (i : S7168x56.Idx) : val_main_v9 (F := Ideal) x0 x1 x2 i = scG (refT x0 x1 x2) (i 0).val (i 1).val :=
  (congrArg (val_main_v9 (F := Ideal) x0 x1 x2) (idx2_ext i (ix2 (i 0) (i 1)) rfl rfl)).trans (v9_at x0 x1 x2 (i 0) (i 1))

/-- The quantized values, in blocks. -/
theorem v15_at (i : S7168x56x128.Idx) :
    val_main_v15 (F := Ideal) x0 x1 x2 i = qv (rowblk (refT x0 x1 x2) (i 0).val (i 1).val) (i 2) := by
  rw [val_main_v15_apply, val_main_v14_apply, val_main_call2_v2_apply, val_main_v13_apply, val_main_v12_apply, val_main_v11_apply,
    val_main_v10_apply, val_main_call2_v4_apply, val_main_call2_v1_apply, v9_idx, v2_at]
  rfl

/-- The quantized values, by row and column. -/
theorem v16_at (i : S7168x7168.Idx) : val_main_v16 (F := Ideal) x0 x1 x2 i = qG (refT x0 x1 x2) (i 0).val (i 1).val := by
  have h0 : (i 0).val < 7168 := (i 0).isLt
  have h1 : (i 1).val < 7168 := (i 1).isLt
  rw [val_main_v16_apply, v15_at]
  unfold qG
  have e0 : ((i 0).val * 7168 + (i 1).val) / 7168 = (i 0).val := by omega
  have e1 : ((i 0).val * 7168 + (i 1).val) / 128 % 56 = (i 1).val / 128 := by omega
  have e2 : ((i 0).val * 7168 + (i 1).val) % 128 = (i 1).val % 128 := by omega
  exact congrArg₂ qv (congrArg₂ (rowblk (refT x0 x1 x2)) e0 e1) (Fin.ext e2)

/-- Every second column, from column 0. -/
theorem even_at (x : IVec S7168x7168 32) (r : Fin 7168) (c : Fin 3584) :
    Host.slice S7168x3584 ![0, 0] ![1, 2] x slicesBy_S7168x7168_S7168x3584_0s1_0s2 (ix2 r c) = x (ix2 r ⟨2 * c.val, by omega⟩) := by
  pointwise

/-- Every second column, from column 1. -/
theorem odd_at (x : IVec S7168x7168 32) (r : Fin 7168) (c : Fin 3584) :
    Host.slice S7168x3584 ![0, 1] ![1, 2] x slicesBy_S7168x7168_S7168x3584_0s1_1s2 (ix2 r c) = x (ix2 r ⟨2 * c.val + 1, by omega⟩) := by
  pointwise
  exact congrArg x (idx2_ext _ _ rfl (Nat.add_comm _ _))

/-- The packed bytes. -/
theorem v25_0_at (r : Fin 7168) (c : Fin 3584) :
    val_main_v25_0 (F := Ideal) x0 x1 x2 (ix2 r c) = packG (refT x0 x1 x2) r.val c.val := by
  rw [val_main_v25_0_apply, val_main_v24_apply, val_main_v23_apply, val_main_v22_apply]
  unfold val_main_v19 val_main_v20
  rw [even_at, odd_at, val_main_v18_apply, val_main_v18_apply, v16_at, v16_at]
  rfl

/-- The low half byte read back as a number. -/
theorem v37_at (i : S7168x3584.Idx) : val_main_v37 (F := Ideal) x0 x1 x2 i = unnib (val_main_v28 (F := Ideal) x0 x1 x2 i) := by
  rw [val_main_v37_apply, val_main_v34_apply, val_main_v36_apply, val_main_v29_apply, val_main_v33_apply, val_main_v35_apply]
  rfl

/-- The high half byte read back as a number. -/
theorem v42_at (i : S7168x3584.Idx) : val_main_v42 (F := Ideal) x0 x1 x2 i = unnib (val_main_v31 (F := Ideal) x0 x1 x2 i) := by
  rw [val_main_v42_apply, val_main_v39_apply, val_main_v41_apply, val_main_v32_apply, val_main_v38_apply, val_main_v40_apply]
  rfl

/-- Every quantized value of a table is the word of an integer of [-7, 7]. -/
theorem qG_word (T : ℕ → ℕ → Ideal .f32) (r c : ℕ) : ∃ z : ℤ, z ∈ Finset.Icc (-7) 7 ∧ qG T r c = BitVec.ofInt 32 z := qv_word _ _

/-- The low halves, read back, are the quantized values of the even columns. -/
theorem lo_at (r : Fin 7168) (c : Fin 3584) :
    val_main_v37 (F := Ideal) x0 x1 x2 (ix2 r c) = FloatOps.sitofp (F := Ideal) .f32 (qG (refT x0 x1 x2) r.val (2 * c.val)) := by
  obtain ⟨z, hz, ez⟩ := qG_word (refT x0 x1 x2) r.val (2 * c.val)
  obtain ⟨w, hw, ew⟩ := qG_word (refT x0 x1 x2) r.val (2 * c.val + 1)
  rw [v37_at, val_main_v28_apply, val_main_v26_apply, v25_0_at]
  unfold packG
  rw [ez, ew, ← unnib_low4 z hz]
  exact congrArg unnib (nib_lo z hz w hw)

/-- The high halves, read back, are the quantized values of the odd columns. -/
theorem hi_at (r : Fin 7168) (c : Fin 3584) :
    val_main_v42 (F := Ideal) x0 x1 x2 (ix2 r c) = FloatOps.sitofp (F := Ideal) .f32 (qG (refT x0 x1 x2) r.val (2 * c.val + 1)) := by
  obtain ⟨z, hz, ez⟩ := qG_word (refT x0 x1 x2) r.val (2 * c.val)
  obtain ⟨w, hw, ew⟩ := qG_word (refT x0 x1 x2) r.val (2 * c.val + 1)
  rw [v42_at, val_main_v31_apply, val_main_v26_apply, v25_0_at]
  unfold packG
  rw [ez, ew, ← unnib_low4 w hw]
  exact congrArg unnib (nib_hi z hz w hw)

/-- Two columns side by side, at the first. -/
theorem cat0_at (a b : FVec Ideal S7168x3584x1 .f32) (r : Fin 7168) (c : Fin 3584) :
    concatenate S7168x3584x2 2 [⟨S7168x3584x1, a⟩, ⟨S7168x3584x1, b⟩] concatenates_S7168x3584x1_S7168x3584x1_S7168x3584x2_d2 (ix3 r c 0)
      = a (ix3 r c 0) := by
  pointwise

/-- Two columns side by side, at the second. -/
theorem cat1_at (a b : FVec Ideal S7168x3584x1 .f32) (r : Fin 7168) (c : Fin 3584) :
    concatenate S7168x3584x2 2 [⟨S7168x3584x1, a⟩, ⟨S7168x3584x1, b⟩] concatenates_S7168x3584x1_S7168x3584x1_S7168x3584x2_d2 (ix3 r c 1)
      = b (ix3 r c 0) := by
  pointwise

/-- The two halves side by side are the quantized values of two neighbouring columns. -/
theorem v45_at (r : Fin 7168) (c : Fin 3584) (e : Fin 2) : val_main_v45 (F := Ideal) x0 x1 x2 (ix3 r c e)
    = FloatOps.sitofp (F := Ideal) .f32 (qG (refT x0 x1 x2) r.val (2 * c.val + e.val)) := by
  unfold val_main_v45
  match e with
  | 0 =>
    refine (cat0_at _ _ r c).trans ?_
    rw [val_main_v43_apply, show idx_main_v43 (ix3 r c 0) = ix2 r c from idx2_ext _ _ rfl rfl, lo_at]
    rfl
  | 1 =>
    refine (cat1_at _ _ r c).trans ?_
    rw [val_main_v44_apply, show idx_main_v44 (ix3 r c 0) = ix2 r c from idx2_ext _ _ rfl rfl, hi_at]
    rfl

/-- A quantized value of a table, by block and lane. -/
theorem qG_block (T : ℕ → ℕ → Ideal .f32) (r b : ℕ) (l : Fin 128) : qG T r (128 * b + l.val) = qv (rowblk T r b) l := by
  have hl := l.isLt
  unfold qG
  exact congrArg₂ qv (congrArg (rowblk T r) (by omega)) (Fin.ext (show (128 * b + l.val) % 128 = l.val by omega))

/-- The unpacked bytes, in blocks, are the quantized values. -/
theorem v46_at (i : S7168x56x128.Idx) : val_main_v46 (F := Ideal) x0 x1 x2 i
    = FloatOps.sitofp (F := Ideal) .f32 (qv (rowblk (refT x0 x1 x2) (i 0).val (i 1).val) (i 2)) := by
  have h0 : (i 0).val < 7168 := (i 0).isLt
  have h1 : (i 1).val < 56 := (i 1).isLt
  have h2 : (i 2).val < 128 := (i 2).isLt
  rw [val_main_v46_apply]
  have e : idx_main_v46 i = ix3 (⟨(i 0).val, h0⟩ : Fin 7168) (⟨64 * (i 1).val + (i 2).val / 2, by omega⟩ : Fin 3584)
      (⟨(i 2).val % 2, Nat.mod_lt _ (by decide)⟩ : Fin 2) := funext fun a => Fin.ext (match a with
    | ⟨0, _⟩ => show (((i 0).val * 56 + (i 1).val) * 128 + (i 2).val) / 7168 = (i 0).val by omega
    | ⟨1, _⟩ => show (((i 0).val * 56 + (i 1).val) * 128 + (i 2).val) / 2 % 3584 = 64 * (i 1).val + (i 2).val / 2 by omega
    | ⟨2, _⟩ => show (((i 0).val * 56 + (i 1).val) * 128 + (i 2).val) % 2 = (i 2).val % 2 by omega)
  rw [e, v45_at]
  refine congrArg (FloatOps.sitofp (F := Ideal) .f32) (Eq.trans ?_ (qG_block (refT x0 x1 x2) (i 0).val (i 1).val (i 2)))
  exact congrArg (qG (refT x0 x1 x2) (i 0).val)
    (show 2 * (64 * (i 1).val + (i 2).val / 2) + (i 2).val % 2 = 128 * (i 1).val + (i 2).val by omega)

/-- The values in blocks of 128, a second time. -/
theorem v47_at (i : S7168x56x128.Idx) : val_main_v47 (F := Ideal) x0 x1 x2 i = rowblk (refT x0 x1 x2) (i 0).val (i 1).val (i 2) :=
  (val_main_v47_apply x0 x1 x2 i).trans ((val_main_v2_apply x0 x1 x2 i).symm.trans (v2_at x0 x1 x2 i))

/-- The new error, in blocks. -/
theorem v51_at (i : S7168x56x128.Idx) : val_main_v51 (F := Ideal) x0 x1 x2 i = nerr (rowblk (refT x0 x1 x2) (i 0).val (i 1).val) (i 2) := by
  rw [val_main_v51_apply, val_main_v50_apply, val_main_v49_apply, val_main_v48_apply, val_main_v25_1_apply, v9_idx, v46_at, v47_at]
  rfl

/-- The new error, by row and column. -/
theorem v52_at (i : S7168x7168.Idx) : val_main_v52 (F := Ideal) x0 x1 x2 i = errG (refT x0 x1 x2) (i 0).val (i 1).val := by
  have h0 : (i 0).val < 7168 := (i 0).isLt
  have h1 : (i 1).val < 7168 := (i 1).isLt
  rw [val_main_v52_apply, v51_at]
  unfold errG
  have e0 : ((i 0).val * 7168 + (i 1).val) / 7168 = (i 0).val := by omega
  have e1 : ((i 0).val * 7168 + (i 1).val) / 128 % 56 = (i 1).val / 128 := by omega
  have e2 : ((i 0).val * 7168 + (i 1).val) % 128 = (i 1).val % 128 := by omega
  exact congrArg₂ nerr (congrArg₂ (rowblk (refT x0 x1 x2)) e0 e1) (Fin.ext e2)

/-- The reference's packed bytes, as a whole array. -/
theorem ref_pack : val_main_v25_0 (F := Ideal) x0 x1 x2 = fun i : S7168x3584.Idx => packG (refT x0 x1 x2) (i 0).val (i 1).val :=
  funext fun i => (congrArg (val_main_v25_0 (F := Ideal) x0 x1 x2) (idx2_ext i (ix2 (i 0) (i 1)) rfl rfl)).trans (v25_0_at x0 x1 x2 (i 0) (i 1))

/-- The reference's scales, as a whole array. -/
theorem ref_scale : val_main_v25_1 (F := Ideal) x0 x1 x2 = fun i : S7168x56.Idx => scG (refT x0 x1 x2) (i 0).val (i 1).val :=
  funext fun i => (val_main_v25_1_apply x0 x1 x2 i).trans (v9_idx x0 x1 x2 i)

/-- The reference's new error, as a whole array. -/
theorem ref_err : val_main_v52 (F := Ideal) x0 x1 x2 = fun i : S7168x7168.Idx => errG (refT x0 x1 x2) (i 0).val (i 1).val :=
  funext fun i => v52_at x0 x1 x2 i

end Cert.GradInt4
-- ==== Proof.Algebraic.lean ====
/- The value claim: at the ideal instance the kernel and the reference end with equal packed bytes, scales and new error. -/
module

public import proofs.«01_k».proof.Proof.Run
public import proofs.«01_k».proof.Proof.RefRead
public import proofs.«01_k».proof.Defs
@[expose] public section

noncomputable section

namespace Cert.GradInt4

open Idealize.ShloMosaic Idealize.SL.Sem

/-- From memories that agree on the arguments, the reference's table of values is the kernel's. -/
theorem table_eq (m : (ℓ : Loc Cert.KernelIdeal.nD Cert.KernelIdeal.τ Cert.KernelIdeal.sig) → Buf (Elt Ideal) ℓ) (c : Dev Cert.KernelIdeal.nD)
    (a0 a1 : (⟨Cert.ReferenceIdeal.S15360x7168, .bf16⟩ : BufTy).Contents (Elt Ideal))
    (a2 : (⟨Cert.ReferenceIdeal.S7168x7168, .f32⟩ : BufTy).Contents (Elt Ideal))
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2)) :
    refT a0 a1 a2 = tabT m c := by
  subst h0 h1 h2
  rfl

/-- Kernel and reference, from memories that agree on the arguments, end with equal results and unchanged arguments. -/
theorem algebraic [hK : Cert.KernelIdeal.Facts] [hR : Cert.ReferenceIdeal.Facts] :
    Cert.algebraic_KernelIdeal_ReferenceIdeal := by
  intro m g m' g' _ hargs
  refine ⟨out0 m, out1 m, out2 m, run_values m g, ?_⟩
  refine (θ_run Cert.ReferenceIdeal.defs _ _).mono (fun r h c => ?_) (Cert.ReferenceIdeal.Value.run (F := Ideal) m' g')
  obtain ⟨e0, e1, e2, ha⟩ := h c
  obtain ⟨h0, h1, h2⟩ := hargs c
  have hT := table_eq m c _ _ _ h0 h1 h2
  refine ⟨e0.trans ?_, e1.trans ?_, e2.trans ?_, ha⟩
  · refine (Cert.ReferenceIdeal.Read.val_main_v25_0_eq _ _ _).trans ((ref_pack _ _ _).trans ?_)
    rw [hT]
    rfl
  · refine (Cert.ReferenceIdeal.Read.val_main_v25_1_eq _ _ _).trans ((ref_scale _ _ _).trans ?_)
    rw [hT]
    rfl
  · refine (Cert.ReferenceIdeal.Read.val_main_v52_eq m' c).trans ((ref_err _ _ _).trans ?_)
    rw [hT]
    rfl

end Cert.GradInt4
-- ==== Proof.lean ====
module

public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsFrame
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.GradInt4.Bits.frame_bits m ρ,
  fun m ρ _ => Cert.GradInt4.frame_ideal m ρ,
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  trivial,
  Cert.GradInt4.algebraic⟩

end Cert.Proof

end
